-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000x32 : Shape := ⟨2, ![10000, 32]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel

variable [Facts]

def fn {F : FTy → Type} [FloatOps F] (main_arg0 : FVec F S10000x128 .f32) (main_arg1 : IVec S10000x32 32) : IVec S_ 1 :=
  let main_c : IVec S_ 32 := constantI S_ 32 0#32
  let main_v0 : IVec S10000x32 32 := broadcastInDim S10000x32 ![] bcast_S_S10000x32 main_c
  let main_v1 : IVec S10000x32 1 := cmpi .sge main_arg1 main_v0
  let main_c_0 : IVec S_ 32 := constantI S_ 32 10000#32
  let main_v2 : IVec S10000x32 32 := broadcastInDim S10000x32 ![] bcast_S_S10000x32 main_c_0
  let main_v3 : IVec S10000x32 1 := cmpi .slt main_arg1 main_v2
  let main_v4 : IVec S10000x32 1 := andi main_v1 main_v3
  let main_c_1 : IVec S_ 1 := constantI S_ 1 1#1
  let main_v5 : IVec S_ 1 := (fun x v => Host.reduce IntOp.andi x v reducesTo_S10000x32_S_d0_1 h_S_) main_v4 main_c_1
  main_v5
-- ==== Kernel.lean ====
abbrev S10000x128 : Shape := ⟨2, ![10000, 128]⟩
abbrev S10000x32 : Shape := ⟨2, ![10000, 32]⟩
abbrev S320000 : Shape := ⟨1, ![320000]⟩
abbrev S_ : Shape := ⟨0, ![]⟩
abbrev S327680 : Shape := ⟨1, ![327680]⟩
abbrev S128 : Shape := ⟨1, ![128]⟩
abbrev S128x128 : Shape := ⟨2, ![128, 128]⟩
abbrev S8x128 : Shape := ⟨2, ![8, 128]⟩
abbrev S16 : Shape := ⟨1, ![16]⟩
abbrev S1x16 : Shape := ⟨2, ![1, 16]⟩

abbrev nBuf : Table → Nat
  | .hbm => 7
  | .local .scVector .vmem => 15
  | _ => 0

abbrev bufTy : (tb : Table) → Fin (nBuf tb) → BufTy
  | .hbm, ⟨0, _⟩ => ⟨S10000x128, .f32⟩
  | .hbm, ⟨1, _⟩ => ⟨S10000x32, .i32⟩
  | .hbm, ⟨2, _⟩ => ⟨S320000, .i32⟩
  | .hbm, ⟨3, _⟩ => ⟨S_, .i32⟩
  | .hbm, ⟨4, _⟩ => ⟨S_, .i32⟩
  | .hbm, ⟨5, _⟩ => ⟨S327680, .i32⟩
  | .hbm, ⟨6, _⟩ => ⟨S10000x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S128, .i32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | .local .scVector .vmem, ⟨12, _⟩ => ⟨S8x128, .f32⟩
  | .local .scVector .vmem, ⟨13, _⟩ => ⟨S8x128, .f32⟩
  | .local .scVector .vmem, ⟨14, _⟩ => ⟨S8x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c0_i32 : BitVec 32 := 0#32
  let v5 : BitVec 1 := Scalar.cmpi .sgt v4 c0_i32
  let v6 : BitVec 32 := Scalar.extui v5
  let c0_i32_1 : BitVec 32 := 0#32
  let v7 : BitVec 1 := Scalar.cmpi .ne v6 c0_i32_1
  v7

def k0_off1 (i : grid0.Coords) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let v24 : BitVec 32 := Scalar.addi v2 c0_i32_14
  let c2_i32_15 : BitVec 32 := 2#32
  let v25 : BitVec 32 := Scalar.muli v24 c2_i32_15
  let c128_i32 : BitVec 32 := 128#32
  let v26 : BitVec 32 := Scalar.muli v25 c128_i32
  let v27 : BitVec 32 := Scalar.addi v26 c0_i32_16
  ![v27.toNat]
def k0_cond2 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c1_i32 : BitVec 32 := 1#32
  let v8 : BitVec 1 := Scalar.cmpi .sgt v4 c1_i32
  let v9 : BitVec 32 := Scalar.extui v8
  let c0_i32_2 : BitVec 32 := 0#32
  let v10 : BitVec 1 := Scalar.cmpi .ne v9 c0_i32_2
  v10

def k0_off2 (i : grid0.Coords) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c1_i32_14 : BitVec 32 := 1#32
  let v24 : BitVec 32 := Scalar.addi v2 c1_i32_14
  let c2_i32_15 : BitVec 32 := 2#32
  let v25 : BitVec 32 := Scalar.muli v24 c2_i32_15
  let c128_i32 : BitVec 32 := 128#32
  let v26 : BitVec 32 := Scalar.muli v25 c128_i32
  let v27 : BitVec 32 := Scalar.addi v26 c0_i32_16
  ![v27.toNat]
def k0_cond3 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c2_i32_3 : BitVec 32 := 2#32
  let v11 : BitVec 1 := Scalar.cmpi .sgt v4 c2_i32_3
  let v12 : BitVec 32 := Scalar.extui v11
  let c0_i32_4 : BitVec 32 := 0#32
  let v13 : BitVec 1 := Scalar.cmpi .ne v12 c0_i32_4
  v13

def k0_off3 (i : grid0.Coords) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c2_i32_14 : BitVec 32 := 2#32
  let v24 : BitVec 32 := Scalar.addi v2 c2_i32_14
  let c2_i32_15 : BitVec 32 := 2#32
  let v25 : BitVec 32 := Scalar.muli v24 c2_i32_15
  let c128_i32 : BitVec 32 := 128#32
  let v26 : BitVec 32 := Scalar.muli v25 c128_i32
  let v27 : BitVec 32 := Scalar.addi v26 c0_i32_16
  ![v27.toNat]
@[reducible] def k0_t1_loop : Scf.Loop 32 :=
  let c0_i32_5 : BitVec 32 := 0#32
  let c14_i32 : BitVec 32 := 14#32
  let v14 : BitVec 32 := Scalar.addi c0_i32_5 c14_i32
  let c1_i32_6 : BitVec 32 := 1#32
  ⟨c0_i32_5, v14, c1_i32_6⟩
def k0_cond4 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_16 : BitVec 32 := 3#32
  let v27 : BitVec 32 := Scalar.addi v26 c3_i32_16
  let c1_i32_17 : BitVec 32 := 1#32
  let v28 : BitVec 32 := Scalar.subi v27 c1_i32_17
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v29 : BitVec 1 := Scalar.cmpi .slt v28 v4
  let v30 : BitVec 32 := Scalar.extui v29
  let c0_i32_18 : BitVec 32 := 0#32
  let v31 : BitVec 1 := Scalar.cmpi .ne v30 c0_i32_18
  v31

def k0_off4 (i : grid0.Coords) (k0_t1 : Fin k0_t1_loop.trips) (c0_i32_31 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_16 : BitVec 32 := 3#32
  let v27 : BitVec 32 := Scalar.addi v26 c3_i32_16
  let c1_i32_17 : BitVec 32 := 1#32
  let v28 : BitVec 32 := Scalar.subi v27 c1_i32_17
  let v53 : BitVec 32 := Scalar.addi v2 v28
  let c2_i32_30 : BitVec 32 := 2#32
  let v54 : BitVec 32 := Scalar.muli v53 c2_i32_30
  let c128_i32 : BitVec 32 := 128#32
  let v55 : BitVec 32 := Scalar.muli v54 c128_i32
  let v56 : BitVec 32 := Scalar.addi v55 c0_i32_31
  ![v56.toNat]
def k0_cond5 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v32 : BitVec 1 := Scalar.cmpi .slt v26 v4
  let v33 : BitVec 32 := Scalar.extui v32
  let c0_i32_19 : BitVec 32 := 0#32
  let v34 : BitVec 1 := Scalar.cmpi .ne v33 c0_i32_19
  v34

def k0_cond6 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_34 : BitVec 32 := 3#32
  let v55 : BitVec 32 := Scalar.addi v26 c3_i32_34
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v56 : BitVec 1 := Scalar.cmpi .slt v55 v4
  let v57 : BitVec 32 := Scalar.extui v56
  let c0_i32_35 : BitVec 32 := 0#32
  let v58 : BitVec 1 := Scalar.cmpi .ne v57 c0_i32_35
  v58

def k0_off5 (i : grid0.Coords) (k0_t1 : Fin k0_t1_loop.trips) (c0_i32_198 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_196 : BitVec 32 := 3#32
  let v474 : BitVec 32 := Scalar.addi v26 c3_i32_196
  let v475 : BitVec 32 := Scalar.addi v2 v474
  let c2_i32_197 : BitVec 32 := 2#32
  let v476 : BitVec 32 := Scalar.muli v475 c2_i32_197
  let c128_i32 : BitVec 32 := 128#32
  let v477 : BitVec 32 := Scalar.muli v476 c128_i32
  let v478 : BitVec 32 := Scalar.addi v477 c0_i32_198
  ![v478.toNat]
def k0_cond7 (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_36 : BitVec 32 := 3#32
  let v59 : BitVec 1 := Scalar.cmpi .sge v26 c3_i32_36
  let v60 : BitVec 32 := Scalar.extui v59
  let c0_i32_37 : BitVec 32 := 0#32
  let v61 : BitVec 1 := Scalar.cmpi .ne v60 c0_i32_37
  v61

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let c3_i32_196 : BitVec 32 := 3#32
  let v474 : BitVec 32 := Scalar.subi v26 c3_i32_196
  let v475 : BitVec 32 := Scalar.addi v2 v474
  let c8_i32_197 : BitVec 32 := 8#32
  let v476 : BitVec 32 := Scalar.muli v475 c8_i32_197
  let c0_i32_198 : BitVec 32 := 0#32
  ![v476.toNat, 0]
@[reducible] def k0_t2_loop : Scf.Loop 32 :=
  let c0_i32_39 : BitVec 32 := 0#32
  let c4_i32 : BitVec 32 := 4#32
  let v63 : BitVec 32 := Scalar.addi c0_i32_39 c4_i32
  let c1_i32_40 : BitVec 32 := 1#32
  ⟨c0_i32_39, v63, c1_i32_40⟩
def k0_off7 (k0_t2 : Fin k0_t2_loop.trips) (c0_i32_198 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off8 (k0_t2 : Fin k0_t2_loop.trips) (c0_i32_214 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off9 (k0_t2 : Fin k0_t2_loop.trips) (c0_i32_230 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off10 (k0_t2 : Fin k0_t2_loop.trips) (c0_i32_246 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off11 (k0_t2 : Fin k0_t2_loop.trips) (c0_i32_262 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off12 (k0_t2 : Fin k0_t2_loop.trips) (c0_i32_278 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off13 (k0_t2 : Fin k0_t2_loop.trips) (c0_i32_294 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off14 (k0_t2 : Fin k0_t2_loop.trips) (c0_i32_310 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t2
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t3_loop : Scf.Loop 32 :=
  let c0_i32_51 : BitVec 32 := 0#32
  let c4_i32_52 : BitVec 32 := 4#32
  let v114 : BitVec 32 := Scalar.addi c0_i32_51 c4_i32_52
  let c1_i32_53 : BitVec 32 := 1#32
  ⟨c0_i32_51, v114, c1_i32_53⟩
def k0_off15 (k0_t3 : Fin k0_t3_loop.trips) (c0_i32_197 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off16 (k0_t3 : Fin k0_t3_loop.trips) (c0_i32_213 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off17 (k0_t3 : Fin k0_t3_loop.trips) (c0_i32_229 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off18 (k0_t3 : Fin k0_t3_loop.trips) (c0_i32_245 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off19 (k0_t3 : Fin k0_t3_loop.trips) (c0_i32_261 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off20 (k0_t3 : Fin k0_t3_loop.trips) (c0_i32_277 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off21 (k0_t3 : Fin k0_t3_loop.trips) (c0_i32_293 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off22 (k0_t3 : Fin k0_t3_loop.trips) (c0_i32_309 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t3
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t4_loop : Scf.Loop 32 :=
  let c0_i32_72 : BitVec 32 := 0#32
  let c4_i32_73 : BitVec 32 := 4#32
  let v165 : BitVec 32 := Scalar.addi c0_i32_72 c4_i32_73
  let c1_i32_74 : BitVec 32 := 1#32
  ⟨c0_i32_72, v165, c1_i32_74⟩
def k0_off23 (k0_t4 : Fin k0_t4_loop.trips) (c0_i32_197 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off24 (k0_t4 : Fin k0_t4_loop.trips) (c0_i32_213 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off25 (k0_t4 : Fin k0_t4_loop.trips) (c0_i32_229 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off26 (k0_t4 : Fin k0_t4_loop.trips) (c0_i32_245 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off27 (k0_t4 : Fin k0_t4_loop.trips) (c0_i32_261 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off28 (k0_t4 : Fin k0_t4_loop.trips) (c0_i32_277 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off29 (k0_t4 : Fin k0_t4_loop.trips) (c0_i32_293 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off30 (k0_t4 : Fin k0_t4_loop.trips) (c0_i32_309 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t4
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t5_loop : Scf.Loop 32 :=
  let c0_i32_93 : BitVec 32 := 0#32
  let c4_i32_94 : BitVec 32 := 4#32
  let v216 : BitVec 32 := Scalar.addi c0_i32_93 c4_i32_94
  let c1_i32_95 : BitVec 32 := 1#32
  ⟨c0_i32_93, v216, c1_i32_95⟩
def k0_off31 (k0_t5 : Fin k0_t5_loop.trips) (c0_i32_197 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off32 (k0_t5 : Fin k0_t5_loop.trips) (c0_i32_213 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off33 (k0_t5 : Fin k0_t5_loop.trips) (c0_i32_229 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off34 (k0_t5 : Fin k0_t5_loop.trips) (c0_i32_245 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off35 (k0_t5 : Fin k0_t5_loop.trips) (c0_i32_261 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off36 (k0_t5 : Fin k0_t5_loop.trips) (c0_i32_277 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off37 (k0_t5 : Fin k0_t5_loop.trips) (c0_i32_293 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off38 (k0_t5 : Fin k0_t5_loop.trips) (c0_i32_309 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t5
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
@[reducible] def k0_t6_loop : Scf.Loop 32 :=
  let c0_i32_114 : BitVec 32 := 0#32
  let c4_i32_115 : BitVec 32 := 4#32
  let v267 : BitVec 32 := Scalar.addi c0_i32_114 c4_i32_115
  let c1_i32_116 : BitVec 32 := 1#32
  ⟨c0_i32_114, v267, c1_i32_116⟩
def k0_off39 (k0_t6 : Fin k0_t6_loop.trips) (c0_i32_198 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off40 (k0_t6 : Fin k0_t6_loop.trips) (c0_i32_214 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off41 (k0_t6 : Fin k0_t6_loop.trips) (c0_i32_230 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off42 (k0_t6 : Fin k0_t6_loop.trips) (c0_i32_246 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off43 (k0_t6 : Fin k0_t6_loop.trips) (c0_i32_262 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off44 (k0_t6 : Fin k0_t6_loop.trips) (c0_i32_278 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off45 (k0_t6 : Fin k0_t6_loop.trips) (c0_i32_294 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off46 (k0_t6 : Fin k0_t6_loop.trips) (c0_i32_310 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t6
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t7_loop : Scf.Loop 32 :=
  let c0_i32_135 : BitVec 32 := 0#32
  let c4_i32_136 : BitVec 32 := 4#32
  let v318 : BitVec 32 := Scalar.addi c0_i32_135 c4_i32_136
  let c1_i32_137 : BitVec 32 := 1#32
  ⟨c0_i32_135, v318, c1_i32_137⟩
def k0_off47 (k0_t7 : Fin k0_t7_loop.trips) (c0_i32_197 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off48 (k0_t7 : Fin k0_t7_loop.trips) (c0_i32_213 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off49 (k0_t7 : Fin k0_t7_loop.trips) (c0_i32_229 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off50 (k0_t7 : Fin k0_t7_loop.trips) (c0_i32_245 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off51 (k0_t7 : Fin k0_t7_loop.trips) (c0_i32_261 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off52 (k0_t7 : Fin k0_t7_loop.trips) (c0_i32_277 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off53 (k0_t7 : Fin k0_t7_loop.trips) (c0_i32_293 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off54 (k0_t7 : Fin k0_t7_loop.trips) (c0_i32_309 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t7
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t8_loop : Scf.Loop 32 :=
  let c0_i32_155 : BitVec 32 := 0#32
  let c4_i32_156 : BitVec 32 := 4#32
  let v369 : BitVec 32 := Scalar.addi c0_i32_155 c4_i32_156
  let c1_i32_157 : BitVec 32 := 1#32
  ⟨c0_i32_155, v369, c1_i32_157⟩
def k0_off55 (k0_t8 : Fin k0_t8_loop.trips) (c0_i32_197 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off56 (k0_t8 : Fin k0_t8_loop.trips) (c0_i32_213 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off57 (k0_t8 : Fin k0_t8_loop.trips) (c0_i32_229 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off58 (k0_t8 : Fin k0_t8_loop.trips) (c0_i32_245 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off59 (k0_t8 : Fin k0_t8_loop.trips) (c0_i32_261 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off60 (k0_t8 : Fin k0_t8_loop.trips) (c0_i32_277 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off61 (k0_t8 : Fin k0_t8_loop.trips) (c0_i32_293 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off62 (k0_t8 : Fin k0_t8_loop.trips) (c0_i32_309 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t8
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t9_loop : Scf.Loop 32 :=
  let c0_i32_175 : BitVec 32 := 0#32
  let c4_i32_176 : BitVec 32 := 4#32
  let v420 : BitVec 32 := Scalar.addi c0_i32_175 c4_i32_176
  let c1_i32_177 : BitVec 32 := 1#32
  ⟨c0_i32_175, v420, c1_i32_177⟩
def k0_off63 (k0_t9 : Fin k0_t9_loop.trips) (c0_i32_197 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off64 (k0_t9 : Fin k0_t9_loop.trips) (c0_i32_213 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off65 (k0_t9 : Fin k0_t9_loop.trips) (c0_i32_229 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off66 (k0_t9 : Fin k0_t9_loop.trips) (c0_i32_245 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off67 (k0_t9 : Fin k0_t9_loop.trips) (c0_i32_261 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off68 (k0_t9 : Fin k0_t9_loop.trips) (c0_i32_277 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off69 (k0_t9 : Fin k0_t9_loop.trips) (c0_i32_293 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off70 (k0_t9 : Fin k0_t9_loop.trips) (c0_i32_309 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t9
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
def k0_off71 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c0_i32_15 : BitVec 32 := 0#32
  let v26 : BitVec 32 := Scalar.addi v25 c0_i32_15
  let v470 : BitVec 32 := Scalar.addi v2 v26
  let c8_i32 : BitVec 32 := 8#32
  let v471 : BitVec 32 := Scalar.muli v470 c8_i32
  let c0_i32_194 : BitVec 32 := 0#32
  ![v471.toNat, 0]
def k0_cond8 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_21 : BitVec 32 := 3#32
  let v36 : BitVec 32 := Scalar.addi v35 c3_i32_21
  let c1_i32_22 : BitVec 32 := 1#32
  let v37 : BitVec 32 := Scalar.subi v36 c1_i32_22
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v38 : BitVec 1 := Scalar.cmpi .slt v37 v4
  let v39 : BitVec 32 := Scalar.extui v38
  let c0_i32_23 : BitVec 32 := 0#32
  let v40 : BitVec 1 := Scalar.cmpi .ne v39 c0_i32_23
  v40

def k0_off72 (i : grid0.Coords) (k0_t1 : Fin k0_t1_loop.trips) (c0_i32_31 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_21 : BitVec 32 := 3#32
  let v36 : BitVec 32 := Scalar.addi v35 c3_i32_21
  let c1_i32_22 : BitVec 32 := 1#32
  let v37 : BitVec 32 := Scalar.subi v36 c1_i32_22
  let v53 : BitVec 32 := Scalar.addi v2 v37
  let c2_i32_30 : BitVec 32 := 2#32
  let v54 : BitVec 32 := Scalar.muli v53 c2_i32_30
  let c128_i32 : BitVec 32 := 128#32
  let v55 : BitVec 32 := Scalar.muli v54 c128_i32
  let v56 : BitVec 32 := Scalar.addi v55 c0_i32_31
  ![v56.toNat]
def k0_cond9 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v41 : BitVec 1 := Scalar.cmpi .slt v35 v4
  let v42 : BitVec 32 := Scalar.extui v41
  let c0_i32_24 : BitVec 32 := 0#32
  let v43 : BitVec 1 := Scalar.cmpi .ne v42 c0_i32_24
  v43

def k0_cond10 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_34 : BitVec 32 := 3#32
  let v55 : BitVec 32 := Scalar.addi v35 c3_i32_34
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v56 : BitVec 1 := Scalar.cmpi .slt v55 v4
  let v57 : BitVec 32 := Scalar.extui v56
  let c0_i32_35 : BitVec 32 := 0#32
  let v58 : BitVec 1 := Scalar.cmpi .ne v57 c0_i32_35
  v58

def k0_off73 (i : grid0.Coords) (k0_t1 : Fin k0_t1_loop.trips) (c0_i32_198 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_196 : BitVec 32 := 3#32
  let v474 : BitVec 32 := Scalar.addi v35 c3_i32_196
  let v475 : BitVec 32 := Scalar.addi v2 v474
  let c2_i32_197 : BitVec 32 := 2#32
  let v476 : BitVec 32 := Scalar.muli v475 c2_i32_197
  let c128_i32 : BitVec 32 := 128#32
  let v477 : BitVec 32 := Scalar.muli v476 c128_i32
  let v478 : BitVec 32 := Scalar.addi v477 c0_i32_198
  ![v478.toNat]
def k0_cond11 (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_36 : BitVec 32 := 3#32
  let v59 : BitVec 1 := Scalar.cmpi .sge v35 c3_i32_36
  let v60 : BitVec 32 := Scalar.extui v59
  let c0_i32_37 : BitVec 32 := 0#32
  let v61 : BitVec 1 := Scalar.cmpi .ne v60 c0_i32_37
  v61

def k0_off74 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let c3_i32_196 : BitVec 32 := 3#32
  let v474 : BitVec 32 := Scalar.subi v35 c3_i32_196
  let v475 : BitVec 32 := Scalar.addi v2 v474
  let c8_i32_197 : BitVec 32 := 8#32
  let v476 : BitVec 32 := Scalar.muli v475 c8_i32_197
  let c0_i32_198 : BitVec 32 := 0#32
  ![v476.toNat, 0]
@[reducible] def k0_t10_loop : Scf.Loop 32 :=
  let c0_i32_39 : BitVec 32 := 0#32
  let c4_i32 : BitVec 32 := 4#32
  let v63 : BitVec 32 := Scalar.addi c0_i32_39 c4_i32
  let c1_i32_40 : BitVec 32 := 1#32
  ⟨c0_i32_39, v63, c1_i32_40⟩
def k0_off75 (k0_t10 : Fin k0_t10_loop.trips) (c0_i32_198 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off76 (k0_t10 : Fin k0_t10_loop.trips) (c0_i32_214 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off77 (k0_t10 : Fin k0_t10_loop.trips) (c0_i32_230 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off78 (k0_t10 : Fin k0_t10_loop.trips) (c0_i32_246 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off79 (k0_t10 : Fin k0_t10_loop.trips) (c0_i32_262 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off80 (k0_t10 : Fin k0_t10_loop.trips) (c0_i32_278 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off81 (k0_t10 : Fin k0_t10_loop.trips) (c0_i32_294 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off82 (k0_t10 : Fin k0_t10_loop.trips) (c0_i32_310 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t10
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t11_loop : Scf.Loop 32 :=
  let c0_i32_51 : BitVec 32 := 0#32
  let c4_i32_52 : BitVec 32 := 4#32
  let v114 : BitVec 32 := Scalar.addi c0_i32_51 c4_i32_52
  let c1_i32_53 : BitVec 32 := 1#32
  ⟨c0_i32_51, v114, c1_i32_53⟩
def k0_off83 (k0_t11 : Fin k0_t11_loop.trips) (c0_i32_197 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off84 (k0_t11 : Fin k0_t11_loop.trips) (c0_i32_213 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off85 (k0_t11 : Fin k0_t11_loop.trips) (c0_i32_229 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off86 (k0_t11 : Fin k0_t11_loop.trips) (c0_i32_245 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off87 (k0_t11 : Fin k0_t11_loop.trips) (c0_i32_261 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off88 (k0_t11 : Fin k0_t11_loop.trips) (c0_i32_277 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off89 (k0_t11 : Fin k0_t11_loop.trips) (c0_i32_293 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off90 (k0_t11 : Fin k0_t11_loop.trips) (c0_i32_309 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t11
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t12_loop : Scf.Loop 32 :=
  let c0_i32_72 : BitVec 32 := 0#32
  let c4_i32_73 : BitVec 32 := 4#32
  let v165 : BitVec 32 := Scalar.addi c0_i32_72 c4_i32_73
  let c1_i32_74 : BitVec 32 := 1#32
  ⟨c0_i32_72, v165, c1_i32_74⟩
def k0_off91 (k0_t12 : Fin k0_t12_loop.trips) (c0_i32_197 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off92 (k0_t12 : Fin k0_t12_loop.trips) (c0_i32_213 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off93 (k0_t12 : Fin k0_t12_loop.trips) (c0_i32_229 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off94 (k0_t12 : Fin k0_t12_loop.trips) (c0_i32_245 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off95 (k0_t12 : Fin k0_t12_loop.trips) (c0_i32_261 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off96 (k0_t12 : Fin k0_t12_loop.trips) (c0_i32_277 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off97 (k0_t12 : Fin k0_t12_loop.trips) (c0_i32_293 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off98 (k0_t12 : Fin k0_t12_loop.trips) (c0_i32_309 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t12
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t13_loop : Scf.Loop 32 :=
  let c0_i32_93 : BitVec 32 := 0#32
  let c4_i32_94 : BitVec 32 := 4#32
  let v216 : BitVec 32 := Scalar.addi c0_i32_93 c4_i32_94
  let c1_i32_95 : BitVec 32 := 1#32
  ⟨c0_i32_93, v216, c1_i32_95⟩
def k0_off99 (k0_t13 : Fin k0_t13_loop.trips) (c0_i32_197 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off100 (k0_t13 : Fin k0_t13_loop.trips) (c0_i32_213 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off101 (k0_t13 : Fin k0_t13_loop.trips) (c0_i32_229 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off102 (k0_t13 : Fin k0_t13_loop.trips) (c0_i32_245 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off103 (k0_t13 : Fin k0_t13_loop.trips) (c0_i32_261 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off104 (k0_t13 : Fin k0_t13_loop.trips) (c0_i32_277 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off105 (k0_t13 : Fin k0_t13_loop.trips) (c0_i32_293 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off106 (k0_t13 : Fin k0_t13_loop.trips) (c0_i32_309 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t13
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
@[reducible] def k0_t14_loop : Scf.Loop 32 :=
  let c0_i32_114 : BitVec 32 := 0#32
  let c4_i32_115 : BitVec 32 := 4#32
  let v267 : BitVec 32 := Scalar.addi c0_i32_114 c4_i32_115
  let c1_i32_116 : BitVec 32 := 1#32
  ⟨c0_i32_114, v267, c1_i32_116⟩
def k0_off107 (k0_t14 : Fin k0_t14_loop.trips) (c0_i32_198 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off108 (k0_t14 : Fin k0_t14_loop.trips) (c0_i32_214 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off109 (k0_t14 : Fin k0_t14_loop.trips) (c0_i32_230 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off110 (k0_t14 : Fin k0_t14_loop.trips) (c0_i32_246 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off111 (k0_t14 : Fin k0_t14_loop.trips) (c0_i32_262 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off112 (k0_t14 : Fin k0_t14_loop.trips) (c0_i32_278 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off113 (k0_t14 : Fin k0_t14_loop.trips) (c0_i32_294 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off114 (k0_t14 : Fin k0_t14_loop.trips) (c0_i32_310 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t14
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t15_loop : Scf.Loop 32 :=
  let c0_i32_135 : BitVec 32 := 0#32
  let c4_i32_136 : BitVec 32 := 4#32
  let v318 : BitVec 32 := Scalar.addi c0_i32_135 c4_i32_136
  let c1_i32_137 : BitVec 32 := 1#32
  ⟨c0_i32_135, v318, c1_i32_137⟩
def k0_off115 (k0_t15 : Fin k0_t15_loop.trips) (c0_i32_197 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off116 (k0_t15 : Fin k0_t15_loop.trips) (c0_i32_213 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off117 (k0_t15 : Fin k0_t15_loop.trips) (c0_i32_229 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off118 (k0_t15 : Fin k0_t15_loop.trips) (c0_i32_245 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off119 (k0_t15 : Fin k0_t15_loop.trips) (c0_i32_261 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off120 (k0_t15 : Fin k0_t15_loop.trips) (c0_i32_277 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off121 (k0_t15 : Fin k0_t15_loop.trips) (c0_i32_293 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off122 (k0_t15 : Fin k0_t15_loop.trips) (c0_i32_309 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t15
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t16_loop : Scf.Loop 32 :=
  let c0_i32_155 : BitVec 32 := 0#32
  let c4_i32_156 : BitVec 32 := 4#32
  let v369 : BitVec 32 := Scalar.addi c0_i32_155 c4_i32_156
  let c1_i32_157 : BitVec 32 := 1#32
  ⟨c0_i32_155, v369, c1_i32_157⟩
def k0_off123 (k0_t16 : Fin k0_t16_loop.trips) (c0_i32_197 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off124 (k0_t16 : Fin k0_t16_loop.trips) (c0_i32_213 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off125 (k0_t16 : Fin k0_t16_loop.trips) (c0_i32_229 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off126 (k0_t16 : Fin k0_t16_loop.trips) (c0_i32_245 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off127 (k0_t16 : Fin k0_t16_loop.trips) (c0_i32_261 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off128 (k0_t16 : Fin k0_t16_loop.trips) (c0_i32_277 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off129 (k0_t16 : Fin k0_t16_loop.trips) (c0_i32_293 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off130 (k0_t16 : Fin k0_t16_loop.trips) (c0_i32_309 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t16
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t17_loop : Scf.Loop 32 :=
  let c0_i32_175 : BitVec 32 := 0#32
  let c4_i32_176 : BitVec 32 := 4#32
  let v420 : BitVec 32 := Scalar.addi c0_i32_175 c4_i32_176
  let c1_i32_177 : BitVec 32 := 1#32
  ⟨c0_i32_175, v420, c1_i32_177⟩
def k0_off131 (k0_t17 : Fin k0_t17_loop.trips) (c0_i32_197 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off132 (k0_t17 : Fin k0_t17_loop.trips) (c0_i32_213 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off133 (k0_t17 : Fin k0_t17_loop.trips) (c0_i32_229 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off134 (k0_t17 : Fin k0_t17_loop.trips) (c0_i32_245 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off135 (k0_t17 : Fin k0_t17_loop.trips) (c0_i32_261 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off136 (k0_t17 : Fin k0_t17_loop.trips) (c0_i32_277 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off137 (k0_t17 : Fin k0_t17_loop.trips) (c0_i32_293 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off138 (k0_t17 : Fin k0_t17_loop.trips) (c0_i32_309 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t17
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
def k0_off139 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c1_i32_20 : BitVec 32 := 1#32
  let v35 : BitVec 32 := Scalar.addi v25 c1_i32_20
  let v470 : BitVec 32 := Scalar.addi v2 v35
  let c8_i32 : BitVec 32 := 8#32
  let v471 : BitVec 32 := Scalar.muli v470 c8_i32
  let c0_i32_194 : BitVec 32 := 0#32
  ![v471.toNat, 0]
def k0_cond12 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_26 : BitVec 32 := 3#32
  let v45 : BitVec 32 := Scalar.addi v44 c3_i32_26
  let c1_i32_27 : BitVec 32 := 1#32
  let v46 : BitVec 32 := Scalar.subi v45 c1_i32_27
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v47 : BitVec 1 := Scalar.cmpi .slt v46 v4
  let v48 : BitVec 32 := Scalar.extui v47
  let c0_i32_28 : BitVec 32 := 0#32
  let v49 : BitVec 1 := Scalar.cmpi .ne v48 c0_i32_28
  v49

def k0_off140 (i : grid0.Coords) (k0_t1 : Fin k0_t1_loop.trips) (c0_i32_31 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_26 : BitVec 32 := 3#32
  let v45 : BitVec 32 := Scalar.addi v44 c3_i32_26
  let c1_i32_27 : BitVec 32 := 1#32
  let v46 : BitVec 32 := Scalar.subi v45 c1_i32_27
  let v53 : BitVec 32 := Scalar.addi v2 v46
  let c2_i32_30 : BitVec 32 := 2#32
  let v54 : BitVec 32 := Scalar.muli v53 c2_i32_30
  let c128_i32 : BitVec 32 := 128#32
  let v55 : BitVec 32 := Scalar.muli v54 c128_i32
  let v56 : BitVec 32 := Scalar.addi v55 c0_i32_31
  ![v56.toNat]
def k0_cond13 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v50 : BitVec 1 := Scalar.cmpi .slt v44 v4
  let v51 : BitVec 32 := Scalar.extui v50
  let c0_i32_29 : BitVec 32 := 0#32
  let v52 : BitVec 1 := Scalar.cmpi .ne v51 c0_i32_29
  v52

def k0_cond14 (i : grid0.Coords) (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_34 : BitVec 32 := 3#32
  let v55 : BitVec 32 := Scalar.addi v44 c3_i32_34
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let v56 : BitVec 1 := Scalar.cmpi .slt v55 v4
  let v57 : BitVec 32 := Scalar.extui v56
  let c0_i32_35 : BitVec 32 := 0#32
  let v58 : BitVec 1 := Scalar.cmpi .ne v57 c0_i32_35
  v58

def k0_off141 (i : grid0.Coords) (k0_t1 : Fin k0_t1_loop.trips) (c0_i32_198 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_196 : BitVec 32 := 3#32
  let v474 : BitVec 32 := Scalar.addi v44 c3_i32_196
  let v475 : BitVec 32 := Scalar.addi v2 v474
  let c2_i32_197 : BitVec 32 := 2#32
  let v476 : BitVec 32 := Scalar.muli v475 c2_i32_197
  let c128_i32 : BitVec 32 := 128#32
  let v477 : BitVec 32 := Scalar.muli v476 c128_i32
  let v478 : BitVec 32 := Scalar.addi v477 c0_i32_198
  ![v478.toNat]
def k0_cond15 (k0_t1 : Fin k0_t1_loop.trips) : BitVec 1 :=
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_36 : BitVec 32 := 3#32
  let v59 : BitVec 1 := Scalar.cmpi .sge v44 c3_i32_36
  let v60 : BitVec 32 := Scalar.extui v59
  let c0_i32_37 : BitVec 32 := 0#32
  let v61 : BitVec 1 := Scalar.cmpi .ne v60 c0_i32_37
  v61

def k0_off142 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let c3_i32_196 : BitVec 32 := 3#32
  let v474 : BitVec 32 := Scalar.subi v44 c3_i32_196
  let v475 : BitVec 32 := Scalar.addi v2 v474
  let c8_i32_197 : BitVec 32 := 8#32
  let v476 : BitVec 32 := Scalar.muli v475 c8_i32_197
  let c0_i32_198 : BitVec 32 := 0#32
  ![v476.toNat, 0]
@[reducible] def k0_t18_loop : Scf.Loop 32 :=
  let c0_i32_39 : BitVec 32 := 0#32
  let c4_i32 : BitVec 32 := 4#32
  let v63 : BitVec 32 := Scalar.addi c0_i32_39 c4_i32
  let c1_i32_40 : BitVec 32 := 1#32
  ⟨c0_i32_39, v63, c1_i32_40⟩
def k0_off143 (k0_t18 : Fin k0_t18_loop.trips) (c0_i32_198 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off144 (k0_t18 : Fin k0_t18_loop.trips) (c0_i32_214 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off145 (k0_t18 : Fin k0_t18_loop.trips) (c0_i32_230 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off146 (k0_t18 : Fin k0_t18_loop.trips) (c0_i32_246 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off147 (k0_t18 : Fin k0_t18_loop.trips) (c0_i32_262 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off148 (k0_t18 : Fin k0_t18_loop.trips) (c0_i32_278 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off149 (k0_t18 : Fin k0_t18_loop.trips) (c0_i32_294 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off150 (k0_t18 : Fin k0_t18_loop.trips) (c0_i32_310 : BitVec 32) : Fin 2 → Nat :=
  let c0_i32_197 : BitVec 32 := 0#32
  let c0_i32_39 : BitVec 32 := 0#32
  let c1_i32_40 : BitVec 32 := 1#32
  let arg36 : BitVec 32 := Scf.iv c0_i32_39 c1_i32_40 k0_t18
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t19_loop : Scf.Loop 32 :=
  let c0_i32_51 : BitVec 32 := 0#32
  let c4_i32_52 : BitVec 32 := 4#32
  let v114 : BitVec 32 := Scalar.addi c0_i32_51 c4_i32_52
  let c1_i32_53 : BitVec 32 := 1#32
  ⟨c0_i32_51, v114, c1_i32_53⟩
def k0_off151 (k0_t19 : Fin k0_t19_loop.trips) (c0_i32_197 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off152 (k0_t19 : Fin k0_t19_loop.trips) (c0_i32_213 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off153 (k0_t19 : Fin k0_t19_loop.trips) (c0_i32_229 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off154 (k0_t19 : Fin k0_t19_loop.trips) (c0_i32_245 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off155 (k0_t19 : Fin k0_t19_loop.trips) (c0_i32_261 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off156 (k0_t19 : Fin k0_t19_loop.trips) (c0_i32_277 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off157 (k0_t19 : Fin k0_t19_loop.trips) (c0_i32_293 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off158 (k0_t19 : Fin k0_t19_loop.trips) (c0_i32_309 : BitVec 32) : Fin 2 → Nat :=
  let c32_i32 : BitVec 32 := 32#32
  let c0_i32_51 : BitVec 32 := 0#32
  let c1_i32_53 : BitVec 32 := 1#32
  let arg36 : BitVec 32 := Scf.iv c0_i32_51 c1_i32_53 k0_t19
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t20_loop : Scf.Loop 32 :=
  let c0_i32_72 : BitVec 32 := 0#32
  let c4_i32_73 : BitVec 32 := 4#32
  let v165 : BitVec 32 := Scalar.addi c0_i32_72 c4_i32_73
  let c1_i32_74 : BitVec 32 := 1#32
  ⟨c0_i32_72, v165, c1_i32_74⟩
def k0_off159 (k0_t20 : Fin k0_t20_loop.trips) (c0_i32_197 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off160 (k0_t20 : Fin k0_t20_loop.trips) (c0_i32_213 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off161 (k0_t20 : Fin k0_t20_loop.trips) (c0_i32_229 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off162 (k0_t20 : Fin k0_t20_loop.trips) (c0_i32_245 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off163 (k0_t20 : Fin k0_t20_loop.trips) (c0_i32_261 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off164 (k0_t20 : Fin k0_t20_loop.trips) (c0_i32_277 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off165 (k0_t20 : Fin k0_t20_loop.trips) (c0_i32_293 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off166 (k0_t20 : Fin k0_t20_loop.trips) (c0_i32_309 : BitVec 32) : Fin 2 → Nat :=
  let c64_i32 : BitVec 32 := 64#32
  let c0_i32_72 : BitVec 32 := 0#32
  let c1_i32_74 : BitVec 32 := 1#32
  let arg36 : BitVec 32 := Scf.iv c0_i32_72 c1_i32_74 k0_t20
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t21_loop : Scf.Loop 32 :=
  let c0_i32_93 : BitVec 32 := 0#32
  let c4_i32_94 : BitVec 32 := 4#32
  let v216 : BitVec 32 := Scalar.addi c0_i32_93 c4_i32_94
  let c1_i32_95 : BitVec 32 := 1#32
  ⟨c0_i32_93, v216, c1_i32_95⟩
def k0_off167 (k0_t21 : Fin k0_t21_loop.trips) (c0_i32_197 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off168 (k0_t21 : Fin k0_t21_loop.trips) (c0_i32_213 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off169 (k0_t21 : Fin k0_t21_loop.trips) (c0_i32_229 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off170 (k0_t21 : Fin k0_t21_loop.trips) (c0_i32_245 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off171 (k0_t21 : Fin k0_t21_loop.trips) (c0_i32_261 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off172 (k0_t21 : Fin k0_t21_loop.trips) (c0_i32_277 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off173 (k0_t21 : Fin k0_t21_loop.trips) (c0_i32_293 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off174 (k0_t21 : Fin k0_t21_loop.trips) (c0_i32_309 : BitVec 32) : Fin 2 → Nat :=
  let c96_i32 : BitVec 32 := 96#32
  let c0_i32_93 : BitVec 32 := 0#32
  let c1_i32_95 : BitVec 32 := 1#32
  let arg36 : BitVec 32 := Scf.iv c0_i32_93 c1_i32_95 k0_t21
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
@[reducible] def k0_t22_loop : Scf.Loop 32 :=
  let c0_i32_114 : BitVec 32 := 0#32
  let c4_i32_115 : BitVec 32 := 4#32
  let v267 : BitVec 32 := Scalar.addi c0_i32_114 c4_i32_115
  let c1_i32_116 : BitVec 32 := 1#32
  ⟨c0_i32_114, v267, c1_i32_116⟩
def k0_off175 (k0_t22 : Fin k0_t22_loop.trips) (c0_i32_198 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v476 : BitVec 32 := Scalar.addi v475 c0_i32_198
  let v477 : Index := Scalar.indexCast v476
  let c0_199 : Index := 0#32
  ![v477.toNat, 0]
def k0_off176 (k0_t22 : Fin k0_t22_loop.trips) (c0_i32_214 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v516 : BitVec 32 := Scalar.addi v475 c0_i32_214
  let v517 : Index := Scalar.indexCast v516
  let c16_215 : Index := 16#32
  ![v517.toNat, 16]
def k0_off177 (k0_t22 : Fin k0_t22_loop.trips) (c0_i32_230 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v556 : BitVec 32 := Scalar.addi v475 c0_i32_230
  let v557 : Index := Scalar.indexCast v556
  let c32_231 : Index := 32#32
  ![v557.toNat, 32]
def k0_off178 (k0_t22 : Fin k0_t22_loop.trips) (c0_i32_246 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v596 : BitVec 32 := Scalar.addi v475 c0_i32_246
  let v597 : Index := Scalar.indexCast v596
  let c48_247 : Index := 48#32
  ![v597.toNat, 48]
def k0_off179 (k0_t22 : Fin k0_t22_loop.trips) (c0_i32_262 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v636 : BitVec 32 := Scalar.addi v475 c0_i32_262
  let v637 : Index := Scalar.indexCast v636
  let c64_263 : Index := 64#32
  ![v637.toNat, 64]
def k0_off180 (k0_t22 : Fin k0_t22_loop.trips) (c0_i32_278 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v676 : BitVec 32 := Scalar.addi v475 c0_i32_278
  let v677 : Index := Scalar.indexCast v676
  let c80_279 : Index := 80#32
  ![v677.toNat, 80]
def k0_off181 (k0_t22 : Fin k0_t22_loop.trips) (c0_i32_294 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v716 : BitVec 32 := Scalar.addi v475 c0_i32_294
  let v717 : Index := Scalar.indexCast v716
  let c96_295 : Index := 96#32
  ![v717.toNat, 96]
def k0_off182 (k0_t22 : Fin k0_t22_loop.trips) (c0_i32_310 : BitVec 32) : Fin 2 → Nat :=
  let c0_i32_197 : BitVec 32 := 0#32
  let c0_i32_114 : BitVec 32 := 0#32
  let c1_i32_116 : BitVec 32 := 1#32
  let arg36 : BitVec 32 := Scf.iv c0_i32_114 c1_i32_116 k0_t22
  let c8_i32_196 : BitVec 32 := 8#32
  let v474 : BitVec 32 := Scalar.muli arg36 c8_i32_196
  let v475 : BitVec 32 := Scalar.addi c0_i32_197 v474
  let v756 : BitVec 32 := Scalar.addi v475 c0_i32_310
  let v757 : Index := Scalar.indexCast v756
  let c112_311 : Index := 112#32
  ![v757.toNat, 112]
@[reducible] def k0_t23_loop : Scf.Loop 32 :=
  let c0_i32_135 : BitVec 32 := 0#32
  let c4_i32_136 : BitVec 32 := 4#32
  let v318 : BitVec 32 := Scalar.addi c0_i32_135 c4_i32_136
  let c1_i32_137 : BitVec 32 := 1#32
  ⟨c0_i32_135, v318, c1_i32_137⟩
def k0_off183 (k0_t23 : Fin k0_t23_loop.trips) (c0_i32_197 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v476 : BitVec 32 := Scalar.addi v475 c0_i32_197
  let v477 : Index := Scalar.indexCast v476
  let c0_198 : Index := 0#32
  ![v477.toNat, 0]
def k0_off184 (k0_t23 : Fin k0_t23_loop.trips) (c0_i32_213 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v516 : BitVec 32 := Scalar.addi v475 c0_i32_213
  let v517 : Index := Scalar.indexCast v516
  let c16_214 : Index := 16#32
  ![v517.toNat, 16]
def k0_off185 (k0_t23 : Fin k0_t23_loop.trips) (c0_i32_229 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v556 : BitVec 32 := Scalar.addi v475 c0_i32_229
  let v557 : Index := Scalar.indexCast v556
  let c32_230 : Index := 32#32
  ![v557.toNat, 32]
def k0_off186 (k0_t23 : Fin k0_t23_loop.trips) (c0_i32_245 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v596 : BitVec 32 := Scalar.addi v475 c0_i32_245
  let v597 : Index := Scalar.indexCast v596
  let c48_246 : Index := 48#32
  ![v597.toNat, 48]
def k0_off187 (k0_t23 : Fin k0_t23_loop.trips) (c0_i32_261 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v636 : BitVec 32 := Scalar.addi v475 c0_i32_261
  let v637 : Index := Scalar.indexCast v636
  let c64_262 : Index := 64#32
  ![v637.toNat, 64]
def k0_off188 (k0_t23 : Fin k0_t23_loop.trips) (c0_i32_277 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v676 : BitVec 32 := Scalar.addi v475 c0_i32_277
  let v677 : Index := Scalar.indexCast v676
  let c80_278 : Index := 80#32
  ![v677.toNat, 80]
def k0_off189 (k0_t23 : Fin k0_t23_loop.trips) (c0_i32_293 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v716 : BitVec 32 := Scalar.addi v475 c0_i32_293
  let v717 : Index := Scalar.indexCast v716
  let c96_294 : Index := 96#32
  ![v717.toNat, 96]
def k0_off190 (k0_t23 : Fin k0_t23_loop.trips) (c0_i32_309 : BitVec 32) : Fin 2 → Nat :=
  let c32_i32 : BitVec 32 := 32#32
  let c0_i32_135 : BitVec 32 := 0#32
  let c1_i32_137 : BitVec 32 := 1#32
  let arg36 : BitVec 32 := Scf.iv c0_i32_135 c1_i32_137 k0_t23
  let c8_i32_196 : BitVec 32 := 8#32
  let v474 : BitVec 32 := Scalar.muli arg36 c8_i32_196
  let v475 : BitVec 32 := Scalar.addi c32_i32 v474
  let v756 : BitVec 32 := Scalar.addi v475 c0_i32_309
  let v757 : Index := Scalar.indexCast v756
  let c112_310 : Index := 112#32
  ![v757.toNat, 112]
@[reducible] def k0_t24_loop : Scf.Loop 32 :=
  let c0_i32_155 : BitVec 32 := 0#32
  let c4_i32_156 : BitVec 32 := 4#32
  let v369 : BitVec 32 := Scalar.addi c0_i32_155 c4_i32_156
  let c1_i32_157 : BitVec 32 := 1#32
  ⟨c0_i32_155, v369, c1_i32_157⟩
def k0_off191 (k0_t24 : Fin k0_t24_loop.trips) (c0_i32_197 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v476 : BitVec 32 := Scalar.addi v475 c0_i32_197
  let v477 : Index := Scalar.indexCast v476
  let c0_198 : Index := 0#32
  ![v477.toNat, 0]
def k0_off192 (k0_t24 : Fin k0_t24_loop.trips) (c0_i32_213 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v516 : BitVec 32 := Scalar.addi v475 c0_i32_213
  let v517 : Index := Scalar.indexCast v516
  let c16_214 : Index := 16#32
  ![v517.toNat, 16]
def k0_off193 (k0_t24 : Fin k0_t24_loop.trips) (c0_i32_229 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v556 : BitVec 32 := Scalar.addi v475 c0_i32_229
  let v557 : Index := Scalar.indexCast v556
  let c32_230 : Index := 32#32
  ![v557.toNat, 32]
def k0_off194 (k0_t24 : Fin k0_t24_loop.trips) (c0_i32_245 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v596 : BitVec 32 := Scalar.addi v475 c0_i32_245
  let v597 : Index := Scalar.indexCast v596
  let c48_246 : Index := 48#32
  ![v597.toNat, 48]
def k0_off195 (k0_t24 : Fin k0_t24_loop.trips) (c0_i32_261 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v636 : BitVec 32 := Scalar.addi v475 c0_i32_261
  let v637 : Index := Scalar.indexCast v636
  let c64_262 : Index := 64#32
  ![v637.toNat, 64]
def k0_off196 (k0_t24 : Fin k0_t24_loop.trips) (c0_i32_277 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v676 : BitVec 32 := Scalar.addi v475 c0_i32_277
  let v677 : Index := Scalar.indexCast v676
  let c80_278 : Index := 80#32
  ![v677.toNat, 80]
def k0_off197 (k0_t24 : Fin k0_t24_loop.trips) (c0_i32_293 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v716 : BitVec 32 := Scalar.addi v475 c0_i32_293
  let v717 : Index := Scalar.indexCast v716
  let c96_294 : Index := 96#32
  ![v717.toNat, 96]
def k0_off198 (k0_t24 : Fin k0_t24_loop.trips) (c0_i32_309 : BitVec 32) : Fin 2 → Nat :=
  let c64_i32 : BitVec 32 := 64#32
  let c0_i32_155 : BitVec 32 := 0#32
  let c1_i32_157 : BitVec 32 := 1#32
  let arg36 : BitVec 32 := Scf.iv c0_i32_155 c1_i32_157 k0_t24
  let c8_i32_196 : BitVec 32 := 8#32
  let v474 : BitVec 32 := Scalar.muli arg36 c8_i32_196
  let v475 : BitVec 32 := Scalar.addi c64_i32 v474
  let v756 : BitVec 32 := Scalar.addi v475 c0_i32_309
  let v757 : Index := Scalar.indexCast v756
  let c112_310 : Index := 112#32
  ![v757.toNat, 112]
@[reducible] def k0_t25_loop : Scf.Loop 32 :=
  let c0_i32_175 : BitVec 32 := 0#32
  let c4_i32_176 : BitVec 32 := 4#32
  let v420 : BitVec 32 := Scalar.addi c0_i32_175 c4_i32_176
  let c1_i32_177 : BitVec 32 := 1#32
  ⟨c0_i32_175, v420, c1_i32_177⟩
def k0_off199 (k0_t25 : Fin k0_t25_loop.trips) (c0_i32_197 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v476 : BitVec 32 := Scalar.addi v475 c0_i32_197
  let v477 : Index := Scalar.indexCast v476
  let c0_198 : Index := 0#32
  ![v477.toNat, 0]
def k0_off200 (k0_t25 : Fin k0_t25_loop.trips) (c0_i32_213 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v516 : BitVec 32 := Scalar.addi v475 c0_i32_213
  let v517 : Index := Scalar.indexCast v516
  let c16_214 : Index := 16#32
  ![v517.toNat, 16]
def k0_off201 (k0_t25 : Fin k0_t25_loop.trips) (c0_i32_229 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v556 : BitVec 32 := Scalar.addi v475 c0_i32_229
  let v557 : Index := Scalar.indexCast v556
  let c32_230 : Index := 32#32
  ![v557.toNat, 32]
def k0_off202 (k0_t25 : Fin k0_t25_loop.trips) (c0_i32_245 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v596 : BitVec 32 := Scalar.addi v475 c0_i32_245
  let v597 : Index := Scalar.indexCast v596
  let c48_246 : Index := 48#32
  ![v597.toNat, 48]
def k0_off203 (k0_t25 : Fin k0_t25_loop.trips) (c0_i32_261 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v636 : BitVec 32 := Scalar.addi v475 c0_i32_261
  let v637 : Index := Scalar.indexCast v636
  let c64_262 : Index := 64#32
  ![v637.toNat, 64]
def k0_off204 (k0_t25 : Fin k0_t25_loop.trips) (c0_i32_277 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v676 : BitVec 32 := Scalar.addi v475 c0_i32_277
  let v677 : Index := Scalar.indexCast v676
  let c80_278 : Index := 80#32
  ![v677.toNat, 80]
def k0_off205 (k0_t25 : Fin k0_t25_loop.trips) (c0_i32_293 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v716 : BitVec 32 := Scalar.addi v475 c0_i32_293
  let v717 : Index := Scalar.indexCast v716
  let c96_294 : Index := 96#32
  ![v717.toNat, 96]
def k0_off206 (k0_t25 : Fin k0_t25_loop.trips) (c0_i32_309 : BitVec 32) : Fin 2 → Nat :=
  let c96_i32 : BitVec 32 := 96#32
  let c0_i32_175 : BitVec 32 := 0#32
  let c1_i32_177 : BitVec 32 := 1#32
  let arg36 : BitVec 32 := Scf.iv c0_i32_175 c1_i32_177 k0_t25
  let c8_i32_196 : BitVec 32 := 8#32
  let v474 : BitVec 32 := Scalar.muli arg36 c8_i32_196
  let v475 : BitVec 32 := Scalar.addi c96_i32 v474
  let v756 : BitVec 32 := Scalar.addi v475 c0_i32_309
  let v757 : Index := Scalar.indexCast v756
  let c112_310 : Index := 112#32
  ![v757.toNat, 112]
def k0_off207 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let c0_i32_5 : BitVec 32 := 0#32
  let c1_i32_6 : BitVec 32 := 1#32
  let arg35 : BitVec 32 := Scf.iv c0_i32_5 c1_i32_6 k0_t1
  let c3_i32 : BitVec 32 := 3#32
  let v24 : BitVec 32 := Scalar.muli arg35 c3_i32
  let v25 : BitVec 32 := Scalar.addi c0_i32_14 v24
  let c2_i32_25 : BitVec 32 := 2#32
  let v44 : BitVec 32 := Scalar.addi v25 c2_i32_25
  let v470 : BitVec 32 := Scalar.addi v2 v44
  let c8_i32 : BitVec 32 := 8#32
  let v471 : BitVec 32 := Scalar.muli v470 c8_i32
  let c0_i32_194 : BitVec 32 := 0#32
  ![v471.toNat, 0]
def k0_cond16 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c0_i32_8 : BitVec 32 := 0#32
  let v15 : BitVec 1 := Scalar.cmpi .sgt v4 c0_i32_8
  let v16 : BitVec 32 := Scalar.extui v15
  let c0_i32_9 : BitVec 32 := 0#32
  let v17 : BitVec 1 := Scalar.cmpi .ne v16 c0_i32_9
  v17

def k0_off208 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_14 : BitVec 32 := 0#32
  let v24 : BitVec 32 := Scalar.addi v2 c0_i32_14
  let c8_i32 : BitVec 32 := 8#32
  let v25 : BitVec 32 := Scalar.muli v24 c8_i32
  let c0_i32_15 : BitVec 32 := 0#32
  ![v25.toNat, 0]
def k0_cond17 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c1_i32_10 : BitVec 32 := 1#32
  let v18 : BitVec 1 := Scalar.cmpi .sgt v4 c1_i32_10
  let v19 : BitVec 32 := Scalar.extui v18
  let c0_i32_11 : BitVec 32 := 0#32
  let v20 : BitVec 1 := Scalar.cmpi .ne v19 c0_i32_11
  v20

def k0_off209 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c1_i32_14 : BitVec 32 := 1#32
  let v24 : BitVec 32 := Scalar.addi v2 c1_i32_14
  let c8_i32 : BitVec 32 := 8#32
  let v25 : BitVec 32 := Scalar.muli v24 c8_i32
  let c0_i32_15 : BitVec 32 := 0#32
  ![v25.toNat, 0]
def k0_cond18 (i : grid0.Coords) : BitVec 1 :=
  let c40_i32_0 : BitVec 32 := 40#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let v3 : BitVec 32 := Scalar.subi c1250_i32 v2
  let v4 : BitVec 32 := Scalar.minsi c40_i32_0 v3
  let c2_i32_12 : BitVec 32 := 2#32
  let v21 : BitVec 1 := Scalar.cmpi .sgt v4 c2_i32_12
  let v22 : BitVec 32 := Scalar.extui v21
  let c0_i32_13 : BitVec 32 := 0#32
  let v23 : BitVec 1 := Scalar.cmpi .ne v22 c0_i32_13
  v23

def k0_off210 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c2_i32_14 : BitVec 32 := 2#32
  let v24 : BitVec 32 := Scalar.addi v2 c2_i32_14
  let c8_i32 : BitVec 32 := 8#32
  let v25 : BitVec 32 := Scalar.muli v24 c8_i32
  let c0_i32_15 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x32 : Shape := ⟨2, ![10000, 32]⟩
abbrev S_ : Shape := ⟨0, ![]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩

abbrev nBuf : Space → Nat
  | .hbm => 30
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32, .i32⟩
  | .hbm, ⟨2, _⟩ => ⟨S_, .i32⟩
  | .hbm, ⟨3, _⟩ => ⟨S10000x32, .i32⟩
  | .hbm, ⟨4, _⟩ => ⟨S10000x32, .i1⟩
  | .hbm, ⟨5, _⟩ => ⟨S_, .i32⟩
  | .hbm, ⟨6, _⟩ => ⟨S10000x32, .i32⟩
  | .hbm, ⟨7, _⟩ => ⟨S10000x32, .i32⟩
  | .hbm, ⟨8, _⟩ => ⟨S10000x32, .i32⟩
  | .hbm, ⟨9, _⟩ => ⟨S10000x32x1, .i32⟩
  | .hbm, ⟨10, _⟩ => ⟨S1, .i32⟩
  | .hbm, ⟨11, _⟩ => ⟨S_, .i32⟩
  | .hbm, ⟨12, _⟩ => ⟨S10000x32x1, .i32⟩
  | .hbm, ⟨13, _⟩ => ⟨S10000x32x1, .i1⟩
  | .hbm, ⟨14, _⟩ => ⟨S1x1x1, .i32⟩
  | .hbm, ⟨15, _⟩ => ⟨S10000x32x1, .i32⟩
  | .hbm, ⟨16, _⟩ => ⟨S10000x32x1, .i1⟩
  | .hbm, ⟨17, _⟩ => ⟨S10000x32x1, .i1⟩
  | .hbm, ⟨18, _⟩ => ⟨S_, .i1⟩
  | .hbm, ⟨19, _⟩ => ⟨S10000x32, .i1⟩
  | .hbm, ⟨20, _⟩ => ⟨S10000x32x128, .f32⟩
  | .hbm, ⟨21, _⟩ => ⟨S10000x32x128, .i1⟩
  | .hbm, ⟨22, _⟩ => ⟨S_, .f32⟩
  | .hbm, ⟨23, _⟩ => ⟨S10000x32x128, .f32⟩
  | .hbm, ⟨24, _⟩ => ⟨S10000x32x128, .f32⟩
  | .hbm, ⟨25, _⟩ => ⟨S_, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Text.lean ====
/- The kernel's text written once. The printed kernel repeats one step for each of its three buffers and one row loop
   for each of a step's eight rows; here each is a definition over the buffers it names, to be compared with the
   printed text by unfolding. -/
module

public import proofs.«01_k».proof.Proof.Gen.KernelIdeal

@[expose] public section

noncomputable section

namespace Cert.KernelIdeal.Pool

open Idealize.ShloMosaic Idealize.SL.Sem Cert.KernelIdeal Cert.KernelIdeal.Gen

variable {F : FTy → Type} [FloatOps F]

/-- Programs of the tile at grid point `i`. -/
abbrev TileProg (F : FTy → Type) (i : grid0.Coords) (α : Type) : Type _ :=
  Prog (TpuEff nD τ sig (Elt F) Λ₀ (.scVector ((i 0).castLE hcore0) ((i 1).castLE hsub0))) α

abbrev RowsRef := Memref sig .scVector .vmem S128x128 .f32
abbrev IdxRef := Memref sig .scVector .vmem S128 .i32
abbrev OutRef := Memref sig .scVector .vmem S8x128 .f32
abbrev TableRef := Memref sig .scVector .hbm S10000x128 .f32
abbrev ListRef := Memref sig .scVector .hbm S327680 .i32

/-- Eight registers of sixteen lanes: one output row. -/
abbrev Regs (F : FTy → Type) : Type :=
  FVec F S16 .f32 × FVec F S16 .f32 × FVec F S16 .f32 × FVec F S16 .f32 × FVec F S16 .f32 × FVec F S16 .f32 × FVec F S16 .f32 × FVec F S16 .f32

/-- The row loop's operands: four trips. -/
@[reducible] def rowLoop : Scf.Loop 32 := ⟨0#32, Scalar.addi 0#32 4#32, 1#32⟩

theorem rowLoop_ok : rowLoop.OK := by decide
theorem rowLoop_trips : rowLoop.trips = 4 := by decide

/-- Where trip `t` of the row loop over the rows from `base` on loads its row `r`, at column `c`. -/
def rowOff (base : BitVec 32) (t : Fin rowLoop.trips) (r : BitVec 32) (c : Nat) : Fin 2 → Nat :=
  ![(Scalar.indexCast (Scalar.addi (Scalar.addi base (Scalar.muli (Scf.iv 0#32 1#32 t) 8#32)) r)).toNat, c]

theorem rowOff_eq : ∀ (q : Fin 4) (t : Fin rowLoop.trips) (r k : Fin 8),
    rowOff (BitVec.ofNat 32 (32 * q.val)) t (BitVec.ofNat 32 r.val) (16 * k.val) = ![32 * q.val + 8 * t.val + r.val, 16 * k.val] := by
  decide +kernel

theorem rowOff_inb (q : Fin 4) (t : Fin rowLoop.trips) (r k : Fin 8) (a) :
    rowOff (BitVec.ofNat 32 (32 * q.val)) t (BitVec.ofNat 32 r.val) (16 * k.val) a + S1x16.size a ≤ S128x128.size a := by
  rw [rowOff_eq]
  have ht : t.val < 4 := rowLoop_trips ▸ t.isLt
  fin_cases a
  · change 32 * q.val + 8 * t.val + r.val + 1 ≤ 128; omega
  · change 16 * k.val + 16 ≤ 128; omega

/-- One load of the row loop. -/
def ld (i : grid0.Coords) (src : RowsRef) (q : Fin 4) (t : Fin rowLoop.trips) (k r : Fin 8) : TileProg F i (Vec F S1x16 .f32) :=
  Prog.lift (.load src (Rect.unit (s := S128x128) (rowOff (BitVec.ofNat 32 (32 * q.val)) t (BitVec.ofNat 32 r.val) (16 * k.val)) S1x16.size
    (rowOff_inb q t r k)).toLoadRect (View.loadsAt_vmem h_S1x16))

/-- One register of the row loop: its eight rows added in order. -/
def add8 (i : grid0.Coords) (src : RowsRef) (q : Fin 4) (t : Fin rowLoop.trips) (k : Fin 8) (a : FVec F S16 .f32) : TileProg F i (FVec F S16 .f32) := do
  let v0 ← ld i src q t k 0
  let v1 ← ld i src q t k 1
  let v2 ← ld i src q t k 2
  let v3 ← ld i src q t k 3
  let v4 ← ld i src q t k 4
  let v5 ← ld i src q t k 5
  let v6 ← ld i src q t k 6
  let v7 ← ld i src q t k 7
  pure (addf (addf (addf (addf (addf (addf (addf (addf a (shapeCast S16 v0 shapeCasts_S1x16_S16)) (shapeCast S16 v1 shapeCasts_S1x16_S16))
    (shapeCast S16 v2 shapeCasts_S1x16_S16)) (shapeCast S16 v3 shapeCasts_S1x16_S16)) (shapeCast S16 v4 shapeCasts_S1x16_S16))
    (shapeCast S16 v5 shapeCasts_S1x16_S16)) (shapeCast S16 v6 shapeCasts_S1x16_S16)) (shapeCast S16 v7 shapeCasts_S1x16_S16))

/-- The row loop's region: every register's eight rows. -/
def rowBody (i : grid0.Coords) (src : RowsRef) (q : Fin 4) : Fin rowLoop.trips → Regs F → TileProg F i (Regs F) :=
  fun t (a0, a1, a2, a3, a4, a5, a6, a7) => do
    let b0 ← add8 i src q t 0 a0
    let b1 ← add8 i src q t 1 a1
    let b2 ← add8 i src q t 2 a2
    let b3 ← add8 i src q t 3 a3
    let b4 ← add8 i src q t 4 a4
    let b5 ← add8 i src q t 5 a5
    let b6 ← add8 i src q t 6 a6
    let b7 ← add8 i src q t 7 a7
    pure (b0, b1, b2, b3, b4, b5, b6, b7)

/-- The zero register the row loop begins from. -/
def zeroReg : FVec F S16 .f32 := broadcast S16 (Scalar.ofBits .f32 0x00000000#32)

theorem st_inb (row k : Fin 8) (a) : (![row.val, 16 * k.val] : Fin 2 → Nat) a + S1x16.size a ≤ S8x128.size a := by
  fin_cases a
  · change row.val + 1 ≤ 8; omega
  · change 16 * k.val + 16 ≤ 128; omega

/-- One register scaled and stored: the printed store reads the lanes it is about to write and drops them. -/
def st (i : grid0.Coords) (out : OutRef) (row k : Fin 8) (cst : F .f32) (v : FVec F S16 .f32) : TileProg F i PUnit := do
  let _ : Vec F S1x16 .f32 ← Prog.lift (.load out (Rect.unit (s := S8x128) ![row.val, 16 * k.val] S1x16.size (st_inb row k)).toLoadRect (View.loadsAt_vmem h_S1x16))
  Prog.lift (.store out (Rect.unit (s := S8x128) ![row.val, 16 * k.val] S1x16.size (st_inb row k))
    (shapeCast S1x16 (mulf v (broadcast S16 cst)) shapeCasts_S16_S1x16) Finset.univ (View.stores_vmem_bits_univ h_S1x16 rfl) (.inl rfl))

/-- Eight registers stored as one output row. -/
def stRow (i : grid0.Coords) (out : OutRef) (row : Fin 8) (cst : F .f32) (v : Regs F) : TileProg F i PUnit := do
  st i out row 0 cst v.1
  st i out row 1 cst v.2.1
  st i out row 2 cst v.2.2.1
  st i out row 3 cst v.2.2.2.1
  st i out row 4 cst v.2.2.2.2.1
  st i out row 5 cst v.2.2.2.2.2.1
  st i out row 6 cst v.2.2.2.2.2.2.1
  st i out row 7 cst v.2.2.2.2.2.2.2

/-- One output row: the row loop from zero, then the stores. -/
def rowProg (i : grid0.Coords) (src : RowsRef) (q : Fin 4) (out : OutRef) (row : Fin 8) (cst : F .f32) : TileProg F i PUnit := do
  let v ← Scf.Loop.for rowLoop rowLoop_ok (zeroReg, zeroReg, zeroReg, zeroReg, zeroReg, zeroReg, zeroReg, zeroReg) (rowBody i src q)
  stRow i out row cst v

/-- One half of a buffer slot: the list of 128 row numbers, the 128 gathered rows, and the semaphores of the two copies. -/
structure Half where
  idx : IdxRef
  hidx : idx.IsWhole
  rows : RowsRef
  hrows : rows.IsWhole
  isem : DmaSems sig S_
  gsem : DmaSems sig S_

/-- A buffer slot: two halves and the eight output rows with the semaphore of their copy out. -/
structure Slot where
  A : Half
  B : Half
  out : OutRef
  hout : out.IsWhole
  ssem : DmaSems sig S_

/-- The 128 row numbers at an offset of the list. -/
abbrev listAt (list : ListRef) (off : Fin 1 → Nat) (h : ∀ a, off a + S128.size a ≤ S327680.size a) : Memref sig .scVector .hbm S128 .i32 :=
  list.slice (Rect.unit (s := S327680) off S128.size h) (fun _ => rfl)

/-- The table, as a copy of its rows names it. -/
abbrev tableAt (tbl : TableRef) : TableRef :=
  tbl.slice (Rect.unit (s := S10000x128) ![0, 0] S10000x128.size inb_S10000x128_S10000x128_0_0) (fun _ => rfl)

/-- Eight rows of the output at an offset. -/
abbrev outAt (res : TableRef) (off : Fin 2 → Nat) (h : ∀ a, off a + S8x128.size a ≤ S10000x128.size a) : Memref sig .scVector .hbm S8x128 .f32 :=
  res.slice (Rect.unit (s := S10000x128) off S8x128.size h) (fun _ => rfl)

/-- Begin loading a half's list. -/
def startIdx (i : grid0.Coords) (src : Memref sig .scVector .hbm S128 .i32) (h : Half) (hs : src.view.WordExact) : TileProg F i PUnit :=
  Prog.lift (.enqueueDma src (.here h.idx) (.dma h.isem.sem) hs h.hidx.wordExact ⟨Or.inl rfl, trivial⟩)

/-- Wait for a half's list. -/
def waitIdx (i : grid0.Coords) (src : Memref sig .scVector .hbm S128 .i32) (h : Half) (hs : src.view.WordExact) : TileProg F i PUnit :=
  Prog.lift (.waitDma2 h.isem.sem src h.idx hs h.hidx.wordExact)

/-- Begin gathering the rows a half's list names. -/
def startGather (i : grid0.Coords) (tbl : TableRef) (h : Half) : TileProg F i PUnit :=
  SparseCore.enqueueIndirectGather rfl (tableAt tbl) h.rows gathers_S10000x128_S128x128 h.idx rfl h.gsem.sem (View.wordExact_bits rfl) rfl (Or.inl rfl)

/-- Wait for a half's rows. -/
def waitGather (i : grid0.Coords) (tbl : TableRef) (h : Half) : TileProg F i PUnit :=
  SparseCore.waitIndirectGather h.gsem.sem (tableAt tbl) h.rows (View.wordExact_bits rfl) h.hrows.wordExact

/-- Begin copying a slot's eight rows out. -/
def startOut (i : grid0.Coords) (dst : Memref sig .scVector .hbm S8x128 .f32) (s : Slot) (hd : dst.view.WordExact) : TileProg F i PUnit :=
  Prog.lift (.enqueueDma s.out (.here dst) (.dma s.ssem.sem) s.hout.wordExact hd ⟨Or.inl rfl, trivial⟩)

/-- Wait for a slot's eight rows. -/
def waitOut (i : grid0.Coords) (dst : Memref sig .scVector .hbm S8x128 .f32) (s : Slot) (hd : dst.view.WordExact) : TileProg F i PUnit :=
  Prog.lift (.waitDma2 s.ssem.sem s.out dst s.hout.wordExact hd)

/-- The eight output rows of a slot whose halves are gathered. -/
def compute (i : grid0.Coords) (s : Slot) (cst : F .f32) : TileProg F i PUnit := do
  rowProg i s.A.rows 0 s.out 0 cst
  rowProg i s.A.rows 1 s.out 1 cst
  rowProg i s.A.rows 2 s.out 2 cst
  rowProg i s.A.rows 3 s.out 3 cst
  rowProg i s.B.rows 0 s.out 4 cst
  rowProg i s.B.rows 1 s.out 5 cst
  rowProg i s.B.rows 2 s.out 6 cst
  rowProg i s.B.rows 3 s.out 7 cst

/-- What a step decides and where it copies: each flag, and under it the offsets, in bounds. -/
structure Plan where
  /-- gather the next slot's lists, loaded from `offPre` -/
  pre : BitVec 1
  offPre : BitVec 32 → Fin 1 → Nat
  hPre : pre = 1#1 → ∀ (r : Fin 2) (a), offPre (BitVec.ofNat 32 (128 * r.val)) a + S128.size a ≤ S327680.size a
  /-- compute this slot, its rows going to `offNew` -/
  main : BitVec 1
  offNew : Fin 2 → Nat
  hNew : main = 1#1 → ∀ a, offNew a + S8x128.size a ≤ S10000x128.size a
  /-- load the lists this slot takes next, from `offNext` -/
  next : BitVec 1
  offNext : BitVec 32 → Fin 1 → Nat
  hNext : main = 1#1 → next = 1#1 → ∀ (r : Fin 2) (a), offNext (BitVec.ofNat 32 (128 * r.val)) a + S128.size a ≤ S327680.size a
  /-- wait for the rows this slot sent before, to `offOld` -/
  old : BitVec 1
  offOld : Fin 2 → Nat
  hOld : main = 1#1 → old = 1#1 → ∀ a, offOld a + S8x128.size a ≤ S10000x128.size a

/-- The step's first part: the slot two ahead goes from loading its lists to gathering. -/
def stepPre (i : grid0.Coords) (tbl : TableRef) (list : ListRef) (p : Slot) (w : Plan) : TileProg F i PUnit :=
  if h : w.pre = 1#1 then do
    waitIdx i (listAt list (w.offPre 0#32) (w.hPre h 0)) p.A (View.wordExact_bits rfl)
    startGather i tbl p.A
    waitIdx i (listAt list (w.offPre 128#32) (w.hPre h 1)) p.B (View.wordExact_bits rfl)
    startGather i tbl p.B
    pure ⟨⟩
  else pure ⟨⟩

/-- The lists a slot takes next begin loading. -/
def stepNext (i : grid0.Coords) (list : ListRef) (s : Slot) (w : Plan) (hm : w.main = 1#1) : TileProg F i PUnit :=
  if h : w.next = 1#1 then do
    startIdx i (listAt list (w.offNext 0#32) (w.hNext hm h 0)) s.A (View.wordExact_bits rfl)
    startIdx i (listAt list (w.offNext 128#32) (w.hNext hm h 1)) s.B (View.wordExact_bits rfl)
    pure ⟨⟩
  else pure ⟨⟩

/-- The rows a slot sent before are waited for. -/
def stepOld (i : grid0.Coords) (res : TableRef) (s : Slot) (w : Plan) (hm : w.main = 1#1) : TileProg F i PUnit :=
  if h : w.old = 1#1 then do
    waitOut i (outAt res w.offOld (w.hOld hm h)) s (View.wordExact_bits rfl)
    pure ⟨⟩
  else pure ⟨⟩

/-- The step's second part: this slot's rows are computed and sent. -/
def stepMain (i : grid0.Coords) (tbl : TableRef) (list : ListRef) (res : TableRef) (s : Slot) (cst : F .f32) (w : Plan) : TileProg F i PUnit :=
  if h : w.main = 1#1 then do
    waitGather i tbl s.A
    waitGather i tbl s.B
    stepNext i list s w h
    stepOld i res s w h
    compute i s cst
    startOut i (outAt res w.offNew (w.hNew h)) s (View.wordExact_bits rfl)
  else pure ⟨⟩

/-- One step: the slot two ahead, then this one. -/
def stepProg (i : grid0.Coords) (tbl : TableRef) (list : ListRef) (res : TableRef) (s p : Slot) (cst : F .f32) (w : Plan) : TileProg F i PUnit := do
  stepPre i tbl list p w
  stepMain i tbl list res s cst w

/-- Trip `t`'s step on the first slot. -/
def plan0 (i : grid0.Coords) (t : Fin k0_t1_loop.trips) : Plan where
  pre := k0_cond4 i t
  offPre := k0_off4 i t
  hPre := fun h r a => k0_off4_inb i t h r a
  main := k0_cond5 i t
  offNew := k0_off71 i t
  hNew := fun h a => k0_off71_inb i t h a
  next := k0_cond6 i t
  offNext := k0_off5 i t
  hNext := fun h h' r a => k0_off5_inb i t h h' r a
  old := k0_cond7 t
  offOld := k0_off6 i t
  hOld := fun h h' a => k0_off6_inb i t h h' a

/-- Trip `t`'s step on the second slot. -/
def plan1 (i : grid0.Coords) (t : Fin k0_t1_loop.trips) : Plan where
  pre := k0_cond8 i t
  offPre := k0_off72 i t
  hPre := fun h r a => k0_off72_inb i t h r a
  main := k0_cond9 i t
  offNew := k0_off139 i t
  hNew := fun h a => k0_off139_inb i t h a
  next := k0_cond10 i t
  offNext := k0_off73 i t
  hNext := fun h h' r a => k0_off73_inb i t h h' r a
  old := k0_cond11 t
  offOld := k0_off74 i t
  hOld := fun h h' a => k0_off74_inb i t h h' a

/-- Trip `t`'s step on the third slot. -/
def plan2 (i : grid0.Coords) (t : Fin k0_t1_loop.trips) : Plan where
  pre := k0_cond12 i t
  offPre := k0_off140 i t
  hPre := fun h r a => k0_off140_inb i t h r a
  main := k0_cond13 i t
  offNew := k0_off207 i t
  hNew := fun h a => k0_off207_inb i t h a
  next := k0_cond14 i t
  offNext := k0_off141 i t
  hNext := fun h h' r a => k0_off141_inb i t h h' r a
  old := k0_cond15 t
  offOld := k0_off142 i t
  hOld := fun h h' a => k0_off142_inb i t h h' a

/-- A trip: a step on each slot. -/
def trip (i : grid0.Coords) (tbl : TableRef) (list : ListRef) (res : TableRef) (s0 s1 s2 : Slot) (cst : F .f32) (t : Fin k0_t1_loop.trips) : TileProg F i Unit := do
  stepProg i tbl list res s0 s2 cst (plan0 i t)
  stepProg i tbl list res s1 s0 cst (plan1 i t)
  stepProg i tbl list res s2 s1 cst (plan2 i t)

/-- A slot's two lists are loaded and its gathers begun, under a flag. -/
def fill (i : grid0.Coords) (tbl : TableRef) (list : ListRef) (s : Slot) (c : BitVec 1) (off : BitVec 32 → Fin 1 → Nat)
    (ho : c = 1#1 → ∀ (r : Fin 2) (a), off (BitVec.ofNat 32 (128 * r.val)) a + S128.size a ≤ S327680.size a) : TileProg F i PUnit :=
  if h : c = 1#1 then do
    startIdx i (listAt list (off 0#32) (ho h 0)) s.A (View.wordExact_bits rfl)
    waitIdx i (listAt list (off 0#32) (ho h 0)) s.A (View.wordExact_bits rfl)
    startGather i tbl s.A
    startIdx i (listAt list (off 128#32) (ho h 1)) s.B (View.wordExact_bits rfl)
    waitIdx i (listAt list (off 128#32) (ho h 1)) s.B (View.wordExact_bits rfl)
    startGather i tbl s.B
    pure ⟨⟩
  else pure ⟨⟩

/-- A slot's two lists begin loading, under a flag. -/
def load (i : grid0.Coords) (list : ListRef) (s : Slot) (c : BitVec 1) (off : BitVec 32 → Fin 1 → Nat)
    (ho : c = 1#1 → ∀ (r : Fin 2) (a), off (BitVec.ofNat 32 (128 * r.val)) a + S128.size a ≤ S327680.size a) : TileProg F i PUnit :=
  if h : c = 1#1 then do
    startIdx i (listAt list (off 0#32) (ho h 0)) s.A (View.wordExact_bits rfl)
    startIdx i (listAt list (off 128#32) (ho h 1)) s.B (View.wordExact_bits rfl)
    pure ⟨⟩
  else pure ⟨⟩

/-- A slot's last rows are waited for, under a flag. -/
def drain (i : grid0.Coords) (res : TableRef) (s : Slot) (c : BitVec 1) (off : Fin 2 → Nat)
    (ho : c = 1#1 → ∀ a, off a + S8x128.size a ≤ S10000x128.size a) : TileProg F i PUnit :=
  if h : c = 1#1 then do
    waitOut i (outAt res off (ho h)) s (View.wordExact_bits rfl)
    pure ⟨⟩
  else pure ⟨⟩

/-- One part in thirty-two, as the kernel holds it. -/
def oneOf32 : F .f32 := Scalar.ofBits .f32 0x3D000000#32

/-- A tile's whole program: the slots are filled, the trips run, the last rows waited for. -/
def pool (i : grid0.Coords) (tbl : TableRef) (list : ListRef) (res : TableRef) (s0 s1 s2 : Slot) : TileProg F i PUnit := do
  fill i tbl list s0 (k0_cond1 i) (k0_off1 i) (fun h r a => k0_off1_inb i h r a)
  fill i tbl list s1 (k0_cond2 i) (k0_off2 i) (fun h r a => k0_off2_inb i h r a)
  load i list s2 (k0_cond3 i) (k0_off3 i) (fun h r a => k0_off3_inb i h r a)
  Scf.Loop.for k0_t1_loop k0_t1_ok PUnit.unit (fun t _ => trip i tbl list res s0 s1 s2 oneOf32 t)
  drain i res s0 (k0_cond16 i) (k0_off208 i) (fun h a => k0_off208_inb i h a)
  drain i res s1 (k0_cond17 i) (k0_off209 i) (fun h a => k0_off209_inb i h a)
  drain i res s2 (k0_cond18 i) (k0_off210 i) (fun h a => k0_off210_inb i h a)

end Cert.KernelIdeal.Pool

end
-- ==== Proof.Same.lean ====
/- The printed kernel is the program written once (Text.lean): both unfold to the same operations, the printed one's
   parts and join points opened in turn. -/
module

public import proofs.«01_k».proof.Proof.Text
public import proofs.«01_k».proof.Proof.Gen.KernelIdeal.Skeleton

@[expose] public section

noncomputable section

namespace Cert.KernelIdeal.Pool

open Idealize.ShloMosaic Idealize.SL.Sem Cert.KernelIdeal Cert.KernelIdeal.Gen

variable {F : FTy → Type} [FloatOps F]

section

variable {E : Type → Type _} {α β : Type}

/-- A branch whose two arms run on into one rest is the branch, then the rest. -/
theorem dite_then {c : Prop} {i₁ i₂ : Decidable c} {L : c → Prog E β} {A : c → Prog E PUnit} {K : Unit → Prog E β} {K' : PUnit → Prog E β}
    (hL : ∀ h, L h = A h >>= K) (hK : ∀ u, K u = K' u) :
    @dite _ c i₁ L (fun _ => K ⟨⟩) = (@dite _ c i₂ A fun _ => .ret ⟨⟩) >>= K' := by
  obtain rfl := funext hK
  cases i₁ with
  | isTrue h => cases i₂ with
    | isTrue _ => exact hL _
    | isFalse h' => exact absurd h h'
  | isFalse h => cases i₂ with
    | isTrue h' => exact absurd h' h
    | isFalse _ => rfl

/-- The same with what comes after the rest. -/
theorem dite_then_bind {c : Prop} {i₁ i₂ : Decidable c} {L : c → Prog E α} {A : c → Prog E PUnit} {K : Unit → Prog E α} {g : α → Prog E β} {K' : PUnit → Prog E β}
    (hL : ∀ h, L h = A h >>= K) (hK : ∀ u, K u >>= g = K' u) :
    (@dite _ c i₁ L (fun _ => K ⟨⟩)) >>= g = (@dite _ c i₂ A fun _ => .ret ⟨⟩) >>= K' := by
  rw [dite_then (i₂ := i₂) hL fun _ => rfl, Prog.bind_assoc]
  exact congrArg _ (funext hK)

/-- The same operation, then the same. -/
theorem op_congr {ε : Type} {e : E ε} {k k' : ε → Prog E β} (h : ∀ x, k x = k' x) : Prog.op e k = Prog.op e k' := congrArg _ (funext h)

/-- The same program, then the same. -/
theorem bind_congr {p : Prog E α} {f g : α → Prog E β} (h : ∀ x, f x = g x) : p >>= f = p >>= g := congrArg _ (funext h)

/-- A guarded block at the end: what comes after it only returns. -/
theorem dite_last {c : Prop} {i₁ i₂ : Decidable c} {L : c → Prog E PUnit} {A : c → Prog E PUnit}
    {K : PUnit → Prog E PUnit} (hL : ∀ h, L h = A h >>= K) (hK : ∀ u, K u = .ret u) :
    @dite _ c i₁ L (fun _ => K ⟨⟩) = @dite _ c i₂ A fun _ => .ret ⟨⟩ := by
  by_cases h : c
  · simp only [h, dite_true, hL, funext hK]; exact Prog.bind_pure (A h)
  · simp only [h, dite_false, hK]

/-- Both spellings of sequencing are one. -/
theorem bind_eq {α β : Type} (p : Prog E α) (f : α → Prog E β) : p.bind f = p >>= f := rfl

/-- A row loop and what follows it. -/
theorem loop_congr {b b' : Fin rowLoop.trips → Regs F → Prog E (Regs F)} {v w : Regs F} {f g : Regs F → Prog E β}
    (h : ∀ a, f a = g a) (hb : b = b') (hv : v = w) :
    Scf.Loop.for rowLoop rowLoop_ok v b >>= f = Scf.Loop.for rowLoop rowLoop_ok w b' >>= g := by
  subst hb; subst hv
  exact congrArg _ (funext h)

/-- The trips' loop, its body replaced by an equal one. -/
theorem trips_congr {b b' : Fin k0_t1_loop.trips → PUnit → Prog E PUnit} {f g : PUnit → Prog E β}
    (h : ∀ a, f a = g a) (hb : ∀ t, b t ⟨⟩ = b' t ⟨⟩) :
    Scf.Loop.for k0_t1_loop k0_t1_ok ⟨⟩ b >>= f = Scf.Loop.for k0_t1_loop k0_t1_ok ⟨⟩ b' >>= g := by
  have hb' : b = b' := funext fun t => funext fun _ => hb t
  subst hb'
  exact congrArg _ (funext h)

end

attribute [local irreducible] k0_cond4 k0_cond5 k0_cond6 k0_cond7 k0_cond8 k0_cond9 k0_cond10 k0_cond11 k0_cond12 k0_cond13 k0_cond14 k0_cond15 instDecidableEqBitVec

set_option maxHeartbeats 4000000 in
set_option maxRecDepth 65536 in
/-- The printed trip is the trip. -/
theorem trip_eq (i : grid0.Coords) (tbl : TableRef) (htbl : tbl.IsWhole) (list : ListRef) (hlist : list.IsWhole) (res : TableRef) (hres : res.IsWhole)
    (s0 s1 s2 : Slot) (v2 v4 : BitVec 32) (cst : F .f32) (t : Fin k0_t1_loop.trips) :
    k0_t1_body (F := F) i tbl htbl list hlist res hres s0.A.idx s0.A.hidx s1.A.idx s1.A.hidx s2.A.idx s2.A.hidx s0.B.idx s0.B.hidx s1.B.idx s1.B.hidx s2.B.idx s2.B.hidx s0.A.rows s0.A.hrows s1.A.rows s1.A.hrows s2.A.rows s2.A.hrows s0.B.rows s0.B.hrows s1.B.rows s1.B.hrows s2.B.rows s2.B.hrows s0.out s0.hout s1.out s1.hout s2.out s2.hout s0.A.isem s1.A.isem s2.A.isem s0.B.isem s1.B.isem s2.B.isem s0.A.gsem s1.A.gsem s2.A.gsem s0.B.gsem s1.B.gsem s2.B.gsem s0.ssem s1.ssem s2.ssem v2 v4 cst t ⟨⟩ = trip i tbl list res s0 s1 s2 cst t := by
  unfold trip stepProg
  simp only [Prog.bind_assoc, stepPre, stepMain, stepNext, stepOld, Prog.pure_eq_ret, plan0, plan1, plan2]
  unfold k0_t1_body
  extract_lets arg35 v24 v25 v26 v35 v44 jp5 jp4 v59 jp3 jp2 jp1 jp0
  refine dite_then (fun h => rfl) fun _ => ?_
  refine dite_then (fun h => ?_) fun _ => dite_then (fun h => rfl) fun _ => dite_then (fun h => ?_) fun _ =>
    dite_then (fun h => rfl) fun _ => dite_last (fun h => ?_) fun _ => rfl
  all_goals
    first | unfold k0_part57 | unfold k0_part124 | unfold k0_part191
    extract_lets -merge +usedOnly c1 c2 c3 c4 c5 c6 c7 c8 c9 c10 c11 c12 c13 c14 c15 c16 c17 c18 c19 c20 c21 c22 c23 c24 c25 c26 c27 c28 jpa jpb
    simp only [Prog.bind_assoc]
    refine bind_congr fun _ => ?_
    refine bind_congr fun _ => ?_
    refine dite_then_bind (fun h => rfl) fun _ => ?_
    refine dite_then_bind (fun h => rfl) fun _ => ?_
    simp only [jpa, compute, rowProg, stRow, st, bind_eq, Prog.bind_assoc, Prog.pure_eq_ret, Prog.bind_ret, Prog.bind_op, Prog.lift]
    iterate 8
      refine loop_congr (F := F) (fun _ => ?_) (by
      funext t acc
      obtain ⟨a0, a1, a2, a3, a4, a5, a6, a7⟩ := acc
      unfold rowBody
      simp only [add8, ld, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part68, k0_part69, k0_part70, k0_part71, k0_part72, k0_part73, k0_part74, k0_part75, k0_part76, k0_part77, k0_part78, k0_part79, k0_part80, k0_part81, k0_part82, k0_part83, k0_part84, k0_part85, k0_part86, k0_part87, k0_part88, k0_part89, k0_part90, k0_part91, k0_part92, k0_part93, k0_part94, k0_part95, k0_part96, k0_part97, k0_part98, k0_part99, k0_part100, k0_part101, k0_part102, k0_part103, k0_part104, k0_part105, k0_part106, k0_part107, k0_part108, k0_part109, k0_part110, k0_part111, k0_part112, k0_part113, k0_part114, k0_part115, k0_part116, k0_part117, k0_part118, k0_part119, k0_part120, k0_part121, k0_part122, k0_part123, k0_part135, k0_part136, k0_part137, k0_part138, k0_part139, k0_part140, k0_part141, k0_part142, k0_part143, k0_part144, k0_part145, k0_part146, k0_part147, k0_part148, k0_part149, k0_part150, k0_part151, k0_part152, k0_part153, k0_part154, k0_part155, k0_part156, k0_part157, k0_part158, k0_part159, k0_part160, k0_part161, k0_part162, k0_part163, k0_part164, k0_part165, k0_part166, k0_part167, k0_part168, k0_part169, k0_part170, k0_part171, k0_part172, k0_part173, k0_part174, k0_part175, k0_part176, k0_part177, k0_part178, k0_part179, k0_part180, k0_part181, k0_part182, k0_part183, k0_part184, k0_part185, k0_part186, k0_part187, k0_part188, k0_part189, k0_part190, Prog.lift, Prog.bind_op, Prog.bind_ret, Prog.pure_eq_ret, bind, Prog.bind, pure]
      rfl) rfl
      iterate 4 (iterate 4 refine op_congr fun _ => ?_)
      try simp only [k0_part58, k0_part59, k0_part60, k0_part61, k0_part62, k0_part63, k0_part64, k0_part65, k0_part66, k0_part67, k0_part125, k0_part126, k0_part127, k0_part128, k0_part129, k0_part130, k0_part131, k0_part132, k0_part133, k0_part134, k0_part192, k0_part193, k0_part194, k0_part195, k0_part196, k0_part197, k0_part198, k0_part199, k0_part200, k0_part201, bind_eq, Prog.bind_assoc, Prog.pure_eq_ret, Prog.bind_ret, Prog.bind_op, Prog.lift]
    rfl

attribute [local irreducible] k0_cond1 k0_cond2 k0_cond3 k0_cond16 k0_cond17 k0_cond18

set_option maxRecDepth 65536 in
/-- The printed kernel is the program written once. -/
theorem pool_eq (i : grid0.Coords) (tbl : TableRef) (htbl : tbl.IsWhole) (list : ListRef) (hlist : list.IsWhole) (res : TableRef) (hres : res.IsWhole)
    (s0 s1 s2 : Slot) :
    cc0_pool (F := F) i tbl htbl list hlist res hres s0.A.idx s0.A.hidx s1.A.idx s1.A.hidx s2.A.idx s2.A.hidx s0.B.idx s0.B.hidx s1.B.idx s1.B.hidx s2.B.idx s2.B.hidx s0.A.rows s0.A.hrows s1.A.rows s1.A.hrows s2.A.rows s2.A.hrows s0.B.rows s0.B.hrows s1.B.rows s1.B.hrows s2.B.rows s2.B.hrows s0.out s0.hout s1.out s1.hout s2.out s2.hout s0.A.isem s1.A.isem s2.A.isem s0.B.isem s1.B.isem s2.B.isem s0.A.gsem s1.A.gsem s2.A.gsem s0.B.gsem s1.B.gsem s2.B.gsem s0.ssem s1.ssem s2.ssem = pool i tbl list res s0 s1 s2 := by
  rw [cc0_pool_eq_skeleton]
  unfold cc0_pool_skel
  extract_lets
  simp only [pool, fill, load, drain, Prog.pure_eq_ret]
  refine dite_then (fun h => rfl) fun _ => dite_then (fun h => rfl) fun _ => dite_then (fun h => rfl) fun _ => ?_
  refine trips_congr (fun _ => ?_) fun t => trip_eq ..
  exact dite_then (fun h => rfl) fun _ => dite_then (fun h => rfl) fun _ => dite_last (fun h => rfl) fun _ => rfl

end Cert.KernelIdeal.Pool

end
-- ==== Proof.Base.lean ====
/- The setting of the proof: the program as the launch theorem sees it, the resources, and a tile's weakest
   precondition. -/
module

public import proofs.«01_k».proof.Proof.Text
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes, and the copies' counters. -/
abbrev UH : Type := URounds (GSem nD τ sig) ℕ
abbrev UU : Type := UH × Counters

/-- The resources of the proof. -/
abbrev M (F : FTy → Type) := MT nD τ sig (HIx 1) (Elt F) ℕ UU ℕ

abbrev EH : Emb UH (M F) := embL

/-- The thread of the tile at grid point `i`. -/
abbrev tid (d : Dev nD) (i : grid0.Coords) : Thread nD τ := V d ((i 0).castLE hcore0) ((i 1).castLE hsub0)

/-- A tile's weakest precondition. -/
abbrev wpT [FloatOps F] (d : Dev nD) (i : grid0.Coords) {α : Type} (p : TileProg F i α) (Q : α → sProp (M F)) : sProp (M F) :=
  wp frame (wpE (defs₀ (F := F)) 𝒱₀ (tid d i) none) Set.univ p Q

variable [FloatOps F] (d : Dev nD) (i : grid0.Coords)

/-- A program runs from `P` to `Q`, then the rest from `Q`. -/
theorem wpT_seq {α β : Type} {p : TileProg F i α} {k : α → TileProg F i β} {P : sProp (M F)} {Q : α → sProp (M F)} {R : β → sProp (M F)}
    (hp : P ⊢ wpT d i p Q) (hk : ∀ a, Q a ⊢ wpT d i (k a) R) : P ⊢ wpT d i (p >>= k) R := by
  refine (hp.trans (wp_mono _ _ _ hk)).trans (Entails.of_eq ?_)
  exact (wp_bind _ _ _ p k R).symm

/-- A program that returns. -/
theorem wpT_ret {α : Type} {a : α} {P : sProp (M F)} {Q : α → sProp (M F)} (h : P ⊢ Q a) : P ⊢ wpT d i (.ret a) Q := by
  refine h.trans ?_
  change _ ⊢ wp frame _ _ (.ret a) Q
  rw [wp_ret]
  iintro HP
  imodintro
  iexact HP

theorem wpT_mono {α : Type} {p : TileProg F i α} {P : sProp (M F)} {Q R : α → sProp (M F)}
    (hp : P ⊢ wpT d i p Q) (hk : ∀ a, Q a ⊢ R a) : P ⊢ wpT d i p R :=
  hp.trans (wp_mono _ _ _ hk)

/-- A program leaves alone what it is not given. -/
theorem wpT_frame {α : Type} {p : TileProg F i α} {P R : sProp (M F)} {Q : α → sProp (M F)}
    (hp : P ⊢ wpT d i p Q) : iprop(P ∗ R) ⊢ wpT d i p (fun a => iprop(Q a ∗ R)) := by
  iintro ⟨HP, HR⟩
  ihave Hw := hp $$ HP
  iapply (wp_wand_r _ _ _ (Q := Q)) $$ [Hw HR]
  isplitl [Hw]; · iexact Hw
  iintro %a HQ
  isplitl [HQ] <;> iassumption

end Cert.KernelIdeal.Pool

end
-- ==== Proof.Rows.lean ====
/- One step's arithmetic: the row loop adds thirty-two gathered rows in order, and the step's eight output rows are
   such sums, scaled. -/
module

public import proofs.«01_k».proof.Proof.Base
public import Idealize.ShloMosaic.Lib.Pipeline.Value
public import Idealize.ShloMosaic.Lib.ValueIdx
public import Idealize.ShloMosaic.Lib.Pipeline.ValueKit.Geometry

@[expose] public section

noncomputable section

namespace Cert.KernelIdeal.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first `n` of a list of numbers, added in order from zero. -/
def sumTo (g : ℕ → F .f32) : ℕ → F .f32
  | 0 => Scalar.ofBits .f32 0x00000000#32
  | n + 1 => FloatOps.addf (sumTo g n) (g n)

/-- An array of 128 rows of 128 read at two numbers, any number beyond its extent read as the last. -/
def at2 {α : Type} (R : S128x128.Idx → α) (r c : ℕ) : α := R (ix2 (⟨min r 127, by omega⟩ : Fin 128) (⟨min c 127, by omega⟩ : Fin 128))

/-- Register `k` of the row loop after `n` of the rows from `32 q` on. -/
def reg (R : S128x128.Idx → F .f32) (q k n : ℕ) : FVec F S16 .f32 := fun x => sumTo (fun j => at2 R (32 * q + j) (16 * k + (x 0).val)) n

/-- The eight registers. -/
def regs (R : S128x128.Idx → F .f32) (q n : ℕ) : Regs F :=
  (reg R q 0 n, reg R q 1 n, reg R q 2 n, reg R q 3 n, reg R q 4 n, reg R q 5 n, reg R q 6 n, reg R q 7 n)

theorem regs_zero (R : S128x128.Idx → F .f32) (q : ℕ) :
    regs R q 0 = (zeroReg, zeroReg, zeroReg, zeroReg, zeroReg, zeroReg, zeroReg, zeroReg) := rfl

/-- A row of sixteen lanes read as a vector of sixteen. -/
theorem cast_row {α : Type} (v : S1x16.Idx → α) (x : S16.Idx) : shapeCast S16 v shapeCasts_S1x16_S16 x = v (ix2 (0 : Fin 1) (x 0 : Fin 16)) :=
  shapeCast_apply v _ x _ (by
    rw [Shape.rowMajor_val_two, Shape.rowMajor_val_one]; show 0 * 16 + (x 0).val = (x 0).val; omega)

/-- A vector of sixteen read as a row of sixteen lanes. -/
theorem cast_vec {α : Type} (v : S16.Idx → α) (x : S1x16.Idx) : shapeCast S1x16 v shapeCasts_S16_S1x16 x = v (ix1 (x 1 : Fin 16)) :=
  shapeCast_apply v _ x _ (by
    rw [Shape.rowMajor_val_two, Shape.rowMajor_val_one]
    have h0 : (x 0).val < 1 := (x 0).isLt
    show (x 1).val = (x 0).val * 16 + (x 1).val; omega)

variable (d : Dev nD) (i : grid0.Coords)

/-- A buffer of the tile, whole, holding `f`. -/
abbrev pts {cs : CoreSpace} {s : Shape} {e : EltTy} (m : Memref sig .scVector cs s e) (f : Buf (Elt F) (m.view.loc (tid d i))) : sProp (M F) :=
  m.view.loc (tid d i) ↦[m.view.set]{fullShare} f

/-- A load reads what its buffer holds there. -/
theorem load_spec {s : Shape} {e : EltTy} (m : Memref sig .scVector .vmem s e) (r : Rect s) (hl : m.view.LoadsAt r.toLoadRect)
    (f : Buf (Elt F) (m.view.loc (tid d i))) :
    pts d i m f ⊢ wpT d i (Prog.op (TpuEff.load m r.toLoadRect hl) Prog.ret) fun v => iprop(⌜v = (m.access r).read (Elt F) f⌝ ∗ pts d i m f) := by
  iintro H
  iapply (wp_load_rect 𝒱₀ (tid d i) none Set.univ (m := m) (r := r) (S := m.view.set) (q := fullShare) (f := f) (View.set_slice_subset m.view r)) $$ H
  iintro H
  rw [wp_ret]
  imodintro
  isplitr
  · ipureintro; rfl
  · iexact H

/-- A store writes what its buffer then holds there. -/
theorem store_spec {s : Shape} {e : EltTy} (m : Memref sig .scVector .vmem s e) (r : Rect s) (w : r.shape.Idx → Elt F e)
    (hx : (m.access r).Stores Finset.univ) (hm) (f : Buf (Elt F) (m.view.loc (tid d i))) :
    pts d i m f ⊢ wpT d i (Prog.op (TpuEff.store m r w Finset.univ hx hm) Prog.ret) fun _ => pts d i m ((m.access r).write (Elt F) f w Finset.univ) := by
  iintro H
  iapply (wp_store 𝒱₀ (tid d i) none Set.univ (m := m) (r := r) (S := m.view.set) (f := f) (View.set_slice_subset m.view r)) $$ H
  iintro H
  rw [wp_ret]
  imodintro
  iexact H

/-- One load of the row loop reads its sixteen lanes. -/
theorem ld_spec (src : RowsRef) (q : Fin 4) (t : Fin rowLoop.trips) (k r : Fin 8) (f : Buf (Elt F) (src.view.loc (tid d i))) :
    pts d i src f ⊢ wpT d i (ld i src q t k r) fun v =>
      iprop(⌜∀ x, shapeCast S16 v shapeCasts_S1x16_S16 x = at2 (src.view.read (Elt F) f) (32 * q.val + (8 * t.val + r.val)) (16 * k.val + (x 0).val)⌝ ∗ pts d i src f) := by
  refine wpT_mono d i (load_spec d i src _ _ f) fun v => ?_
  iintro ⟨%hv, H⟩
  isplitr
  · ipureintro
    intro x
    rw [cast_row, hv]
    have ht : t.val < 4 := rowLoop_trips ▸ t.isLt
    have hx : (x 0).val < 16 := (x 0).isLt
    refine (show _ = src.view.read (Elt F) f _ from rfl).trans (congrArg (src.view.read (Elt F) f) ?_)
    funext a
    apply Fin.ext
    refine (ValueKit.rect_emb_unit_val _ _ _ _ _).trans ?_
    refine (congrArg (· + _) (congrFun (rowOff_eq q t r k) a)).trans ?_
    match a with
    | ⟨0, _⟩ => show 32 * q.val + 8 * t.val + r.val + 0 = min (32 * q.val + (8 * t.val + r.val)) 127; omega
    | ⟨1, _⟩ => show 16 * k.val + (x 0).val = min (16 * k.val + (x 0).val) 127; omega
  · iexact H

/-- A program that answers a value of which something is known, then the rest at any such value. -/
theorem wpT_seq_pure {α β : Type} {p : TileProg F i α} {k : α → TileProg F i β} {P R : sProp (M F)} {φ : α → Prop} {Q : β → sProp (M F)}
    (hp : P ⊢ wpT d i p fun a => iprop(⌜φ a⌝ ∗ R)) (hk : ∀ a, φ a → R ⊢ wpT d i (k a) Q) : P ⊢ wpT d i (p >>= k) Q := by
  refine wpT_seq d i hp fun a => ?_
  iintro ⟨%h, H⟩
  iapply (hk a h) $$ H

/-- A register and one more row's lanes. -/
theorem reg_add (R : S128x128.Idx → F .f32) (q k n : ℕ) (w : FVec F S16 .f32) (hw : ∀ x, w x = at2 R (32 * q + n) (16 * k + (x 0).val)) :
    addf (reg R q k n) w = reg R q k (n + 1) := by
  funext x
  show FloatOps.addf (reg R q k n x) (w x) = _
  rw [hw]
  rfl

/-- A register's eight rows: eight more of the sum. -/
theorem add8_spec (src : RowsRef) (q : Fin 4) (t : Fin rowLoop.trips) (k : Fin 8) (f : Buf (Elt F) (src.view.loc (tid d i))) :
    pts d i src f ⊢ wpT d i (add8 i src q t k (reg (src.view.read (Elt F) f) q.val k.val (8 * t.val))) fun v =>
      iprop(⌜v = reg (src.view.read (Elt F) f) q.val k.val (8 * (t.val + 1))⌝ ∗ pts d i src f) := by
  unfold add8
  refine wpT_seq_pure d i (ld_spec d i src q t k 0 f) fun v0 h0 => wpT_seq_pure d i (ld_spec d i src q t k 1 f) fun v1 h1 =>
    wpT_seq_pure d i (ld_spec d i src q t k 2 f) fun v2 h2 => wpT_seq_pure d i (ld_spec d i src q t k 3 f) fun v3 h3 =>
    wpT_seq_pure d i (ld_spec d i src q t k 4 f) fun v4 h4 => wpT_seq_pure d i (ld_spec d i src q t k 5 f) fun v5 h5 =>
    wpT_seq_pure d i (ld_spec d i src q t k 6 f) fun v6 h6 => wpT_seq_pure d i (ld_spec d i src q t k 7 f) fun v7 h7 => wpT_ret d i ?_
  iintro H
  isplitr
  · ipureintro
    rw [reg_add _ _ _ (8 * t.val) _ h0, reg_add _ _ _ (8 * t.val + 1) _ h1, reg_add _ _ _ (8 * t.val + 2) _ h2, reg_add _ _ _ (8 * t.val + 3) _ h3,
      reg_add _ _ _ (8 * t.val + 4) _ h4, reg_add _ _ _ (8 * t.val + 5) _ h5, reg_add _ _ _ (8 * t.val + 6) _ h6, reg_add _ _ _ (8 * t.val + 7) _ h7]
    rfl
  · iexact H

/-- The row loop's region: eight more rows in every register. -/
theorem rowBody_spec (src : RowsRef) (q : Fin 4) (t : Fin rowLoop.trips) (f : Buf (Elt F) (src.view.loc (tid d i))) :
    pts d i src f ⊢ wpT d i (rowBody i src q t (regs (src.view.read (Elt F) f) q.val (8 * t.val))) fun v =>
      iprop(⌜v = regs (src.view.read (Elt F) f) q.val (8 * (t.val + 1))⌝ ∗ pts d i src f) := by
  unfold rowBody regs
  refine wpT_seq_pure d i (add8_spec d i src q t 0 f) fun v0 h0 => wpT_seq_pure d i (add8_spec d i src q t 1 f) fun v1 h1 =>
    wpT_seq_pure d i (add8_spec d i src q t 2 f) fun v2 h2 => wpT_seq_pure d i (add8_spec d i src q t 3 f) fun v3 h3 =>
    wpT_seq_pure d i (add8_spec d i src q t 4 f) fun v4 h4 => wpT_seq_pure d i (add8_spec d i src q t 5 f) fun v5 h5 =>
    wpT_seq_pure d i (add8_spec d i src q t 6 f) fun v6 h6 => wpT_seq_pure d i (add8_spec d i src q t 7 f) fun v7 h7 => wpT_ret d i ?_
  iintro H
  isplitr
  · ipureintro
    subst h0 h1 h2 h3 h4 h5 h6 h7
    rfl
  · iexact H

/-- The row loop: every register has its thirty-two rows. -/
theorem rows_spec (src : RowsRef) (q : Fin 4) (f : Buf (Elt F) (src.view.loc (tid d i))) :
    pts d i src f ⊢ wpT d i (Scf.Loop.for rowLoop rowLoop_ok (zeroReg, zeroReg, zeroReg, zeroReg, zeroReg, zeroReg, zeroReg, zeroReg) (rowBody i src q)) fun v =>
      iprop(⌜v = regs (src.view.read (Elt F) f) q.val 32⌝ ∗ pts d i src f) := by
  iintro H
  iapply (Scf.wp_for frame (wpE (defs₀ (F := F)) 𝒱₀ (tid d i) none) Set.univ rowLoop.lb rowLoop.ub rowLoop.st rowLoop_ok _ (rowBody i src q)
    (fun n v => iprop(⌜v = regs (src.view.read (Elt F) f) q.val (8 * n)⌝ ∗ pts d i src f)) (by
      intro k acc
      iintro ⟨%h, H⟩
      subst h
      iapply (rowBody_spec d i src q k f) $$ H))
  isplitl [H]
  · isplitr
    · ipureintro; exact (regs_zero _ _).symm
    · iexact H
  · iintro %acc ⟨%h, H⟩
    isplitr
    · ipureintro; rw [h]; exact congrArg (regs _ _) (by rw [show Scf.trips rowLoop.lb rowLoop.ub rowLoop.st = 4 from rowLoop_trips])
    · iexact H

/-- Rows `0 … r - 1` and the first `k` sixteens of row `r` hold `W`. -/
def Done (W : ℕ → ℕ → F .f32) (r k : ℕ) (g : S8x128.Idx → F .f32) : Prop :=
  ∀ y : S8x128.Idx, ((y 0).val < r ∨ (y 0).val = r ∧ (y 1).val < 16 * k) → g y = W (y 0).val (y 1).val

/-- The output rows, so much of them done. -/
def OutDone (W : ℕ → ℕ → F .f32) (out : OutRef) (r k : ℕ) : sProp (M F) :=
  iprop(∃ f : Buf (Elt F) (out.view.loc (tid d i)), ⌜Done W r k (out.view.read (Elt F) f)⌝ ∗ pts d i out f)

/-- The lanes one store writes. -/
abbrev stRect (row k : Fin 8) : Rect S8x128 := Rect.unit (s := S8x128) ![row.val, 16 * k.val] S1x16.size (st_inb row k)

theorem stRect_emb0 (row k : Fin 8) (x : (stRect row k).shape.Idx) : ((stRect row k).emb x 0).val = row.val := by
  have hx0 : (x 0).val < 1 := (x 0).isLt
  refine (ValueKit.rect_emb_unit_val _ _ _ _ _).trans ?_
  show row.val + (x 0).val = row.val
  omega

theorem stRect_emb1 (row k : Fin 8) (x : (stRect row k).shape.Idx) : ((stRect row k).emb x 1).val = 16 * k.val + (x 1).val :=
  ValueKit.rect_emb_unit_val _ _ _ _ _

/-- A store of sixteen lanes of `W` makes sixteen more done. -/
theorem Done.store (W : ℕ → ℕ → F .f32) (out : OutRef) (row k : Fin 8) (f : Buf (Elt F) (out.view.loc (tid d i)))
    (w : (stRect row k).shape.Idx → Elt F .f32) (hw : ∀ x, w x = W row.val (16 * k.val + (x 1).val))
    (hf : Done W row.val k.val (out.view.read (Elt F) f)) :
    Done W row.val (k.val + 1) (out.view.read (Elt F) ((out.view.slice (stRect row k)).write (Elt F) f w Finset.univ)) := by
  intro y hy
  by_cases hm : (y 0).val = row.val ∧ 16 * k.val ≤ (y 1).val ∧ (y 1).val < 16 * k.val + 16
  · obtain ⟨h0, h1, h2⟩ := hm
    have he : (stRect row k).emb (ix2 (0 : Fin 1) (⟨(y 1).val - 16 * k.val, by omega⟩ : Fin 16)) = y := by
      funext a
      apply Fin.ext
      match a with
      | ⟨0, _⟩ => exact (stRect_emb0 row k _).trans h0.symm
      | ⟨1, _⟩ => exact (stRect_emb1 row k _).trans (show 16 * k.val + ((y 1).val - 16 * k.val) = (y 1).val by omega)
    have hr := View.read_slice_write_emb (Val := Elt F) (v := out.view) (stRect row k) f w
      (Finset.mem_univ (ix2 (0 : Fin 1) (⟨(y 1).val - 16 * k.val, by omega⟩ : Fin 16)))
    rw [he] at hr
    rw [hr, hw, h0]
    exact congrArg (W row.val) (show 16 * k.val + ((y 1).val - 16 * k.val) = (y 1).val by omega)
  · rw [View.read_slice_write_of_not_mem (Val := Elt F) (v := out.view) (stRect row k) f w Finset.univ (y := y)]
    · exact hf y (by omega)
    · intro hmem
      obtain ⟨x, -, rfl⟩ := Finset.mem_map.mp hmem
      have hx1 : (x 1).val < 16 := (x 1).isLt
      refine hm ⟨stRect_emb0 row k x, ?_⟩
      rw [stRect_emb1]
      omega

/-- One store: sixteen more. -/
theorem st_spec (W : ℕ → ℕ → F .f32) (out : OutRef) (row k : Fin 8) (cst : F .f32) (v : FVec F S16 .f32)
    (hv : ∀ x : S16.Idx, FloatOps.mulf (v x) cst = W row.val (16 * k.val + (x 0).val)) :
    OutDone d i W out row.val k.val ⊢ wpT d i (st i out row k cst v) fun _ => OutDone d i W out row.val (k.val + 1) := by
  unfold OutDone
  iintro ⟨%f, %hf, H⟩
  iapply (wpT_seq_pure d i (load_spec d i out (stRect row k) (View.loadsAt_vmem h_S1x16) f) fun _ _ => wpT_mono d i (store_spec d i out (stRect row k) (shapeCast S1x16 (mulf v (broadcast S16 cst)) shapeCasts_S16_S1x16) (View.stores_vmem_bits_univ h_S1x16 rfl) (.inl rfl) f) fun _ => by
    iintro H
    iexists ((out.view.slice (stRect row k)).write (Elt F) f (shapeCast S1x16 (mulf v (broadcast S16 cst)) shapeCasts_S16_S1x16) Finset.univ)
    isplitr
    · ipureintro
      refine Done.store d i W out row k f _ (fun x => ?_) hf
      rw [cast_vec]
      exact hv _
    · iexact H) $$ H

/-- Thirty-two of the half's rows from `32 q` on, added and scaled: column `c` of an output row. -/
def rowVal (R : S128x128.Idx → F .f32) (q : ℕ) (cst : F .f32) (c : ℕ) : F .f32 :=
  FloatOps.mulf (sumTo (fun j => at2 R (32 * q + j) c) 32) cst

/-- Eight stores: a row more. -/
theorem stRow_spec (W : ℕ → ℕ → F .f32) (R : S128x128.Idx → F .f32) (q : ℕ) (out : OutRef) (row : Fin 8) (cst : F .f32)
    (hW : ∀ c, rowVal R q cst c = W row.val c) :
    OutDone d i W out row.val 0 ⊢ wpT d i (stRow i out row cst (regs R q 32)) fun _ => OutDone d i W out (row.val + 1) 0 := by
  unfold stRow
  refine wpT_seq d i (st_spec d i W out row 0 cst _ fun x => hW _) fun _ => wpT_seq d i (st_spec d i W out row 1 cst _ fun x => hW _) fun _ =>
    wpT_seq d i (st_spec d i W out row 2 cst _ fun x => hW _) fun _ => wpT_seq d i (st_spec d i W out row 3 cst _ fun x => hW _) fun _ =>
    wpT_seq d i (st_spec d i W out row 4 cst _ fun x => hW _) fun _ => wpT_seq d i (st_spec d i W out row 5 cst _ fun x => hW _) fun _ =>
    wpT_seq d i (st_spec d i W out row 6 cst _ fun x => hW _) fun _ => wpT_mono d i (st_spec d i W out row 7 cst _ fun x => hW _) fun _ => ?_
  unfold OutDone
  iintro ⟨%f, %hf, H⟩
  iexists f
  isplitr
  · ipureintro
    intro y hy
    have h1 : (y 1).val < 128 := (y 1).isLt
    refine hf y ?_
    show _ ∨ _ ∧ (y 1).val < 16 * (7 + 1)
    omega
  · iexact H

/-- One output row: from the half's rows, which stay. -/
theorem rowProg_spec (W : ℕ → ℕ → F .f32) (src : RowsRef) (q : Fin 4) (out : OutRef) (row : Fin 8) (cst : F .f32) (f : Buf (Elt F) (src.view.loc (tid d i)))
    (hW : ∀ c, rowVal (src.view.read (Elt F) f) q.val cst c = W row.val c) :
    iprop(pts d i src f ∗ OutDone d i W out row.val 0) ⊢ wpT d i (rowProg i src q out row cst) fun _ =>
      iprop(pts d i src f ∗ OutDone d i W out (row.val + 1) 0) := by
  unfold rowProg
  refine wpT_seq d i (wpT_frame d i (rows_spec d i src q f)) fun v => ?_
  iintro ⟨⟨%h, Hs⟩, Ho⟩
  subst h
  iapply (wpT_mono d i (wpT_frame d i (R := pts d i src f) (stRow_spec d i W (src.view.read (Elt F) f) q.val out row cst hW)) fun _ => by
    iintro ⟨H, H'⟩
    isplitl [H'] <;> iassumption)
  isplitl [Ho] <;> iassumption

/-- Column `c` of a step's output row `r`: the first four rows come from the first half, the others from the second. -/
def outVal (RA RB : S128x128.Idx → F .f32) (cst : F .f32) (r c : ℕ) : F .f32 :=
  if r < 4 then rowVal RA r cst c else rowVal RB (r - 4) cst c

/-- A step's computation: its eight output rows, from the gathered rows, which stay. -/
theorem compute_spec (s : Slot) (cst : F .f32) (fA : Buf (Elt F) (s.A.rows.view.loc (tid d i))) (fB : Buf (Elt F) (s.B.rows.view.loc (tid d i)))
    (fo : Buf (Elt F) (s.out.view.loc (tid d i))) :
    iprop(pts d i s.A.rows fA ∗ pts d i s.B.rows fB ∗ pts d i s.out fo) ⊢ wpT d i (compute i s cst) fun _ =>
      iprop(pts d i s.A.rows fA ∗ pts d i s.B.rows fB ∗ ∃ f : Buf (Elt F) (s.out.view.loc (tid d i)),
        ⌜∀ y : S8x128.Idx, s.out.view.read (Elt F) f y
          = outVal (s.A.rows.view.read (Elt F) fA) (s.B.rows.view.read (Elt F) fB) cst (y 0).val (y 1).val⌝ ∗ pts d i s.out f) := by
  let W : ℕ → ℕ → F .f32 := outVal (s.A.rows.view.read (Elt F) fA) (s.B.rows.view.read (Elt F) fB) cst
  have hA (q : Fin 4) := rowProg_spec d i W s.A.rows q s.out
    ⟨q.val, by omega⟩ cst fA (fun c => by show _ = outVal _ _ _ _ _; unfold outVal; rw [if_pos (show q.val < 4 by omega)])
  have hB (q : Fin 4) := rowProg_spec d i W s.B.rows q s.out
    ⟨4 + q.val, by omega⟩ cst fB (fun c => by
      show _ = outVal _ _ _ _ _
      unfold outVal; rw [if_neg (show ¬ 4 + q.val < 4 by omega), show 4 + q.val - 4 = q.val by omega])
  have hA' (q : Fin 4) : iprop(pts d i s.A.rows fA ∗ pts d i s.B.rows fB ∗ OutDone d i W s.out q.val 0) ⊢
      wpT d i (rowProg i s.A.rows q s.out ⟨q.val, by omega⟩ cst) fun _ =>
        iprop(pts d i s.A.rows fA ∗ pts d i s.B.rows fB ∗ OutDone d i W s.out (q.val + 1) 0) := by
    iintro ⟨HA, HB, Ho⟩
    iapply (wpT_mono d i (wpT_frame d i (R := pts d i s.B.rows fB) (hA q)) fun _ => by
      iintro ⟨⟨HA, Ho⟩, HB⟩
      isplitl [HA]; · iexact HA
      isplitl [HB] <;> iassumption)
    isplitl [HA Ho]
    · isplitl [HA] <;> iassumption
    · iexact HB
  have hB' (q : Fin 4) : iprop(pts d i s.A.rows fA ∗ pts d i s.B.rows fB ∗ OutDone d i W s.out (4 + q.val) 0) ⊢
      wpT d i (rowProg i s.B.rows q s.out ⟨4 + q.val, by omega⟩ cst) fun _ =>
        iprop(pts d i s.A.rows fA ∗ pts d i s.B.rows fB ∗ OutDone d i W s.out (4 + q.val + 1) 0) := by
    iintro ⟨HA, H⟩
    iapply (wpT_mono d i (wpT_frame d i (R := pts d i s.A.rows fA) (hB q)) fun _ => by
      iintro ⟨H, HA⟩
      isplitl [HA] <;> iassumption)
    isplitl [H] <;> iassumption
  unfold compute
  refine BIBase.Entails.trans (Q := iprop(pts d i s.A.rows fA ∗ pts d i s.B.rows fB ∗ OutDone d i W s.out 0 0)) ?_
    (wpT_seq d i (hA' 0) fun _ => wpT_seq d i (hA' 1) fun _ => wpT_seq d i (hA' 2) fun _ => wpT_seq d i (hA' 3) fun _ =>
      wpT_seq d i (hB' 0) fun _ => wpT_seq d i (hB' 1) fun _ => wpT_seq d i (hB' 2) fun _ => wpT_mono d i (hB' 3) fun _ => ?_)
  · iintro ⟨HA, HB, Ho⟩
    isplitl [HA]; · iexact HA
    isplitl [HB]; · iexact HB
    unfold OutDone
    iexists fo
    isplitr
    · ipureintro; intro y hy; omega
    · iexact Ho
  · iintro ⟨HA, HB, Ho⟩
    isplitl [HA]; · iexact HA
    isplitl [HB]; · iexact HB
    unfold OutDone
    icases Ho with ⟨%f, %hf, Ho⟩
    iexists f
    isplitr
    · ipureintro; intro y; exact hf y (.inl (y 0).isLt)
    · iexact Ho

end Cert.KernelIdeal.Pool

end
-- ==== Proof.Copies.lean ====
/- The copies of a step: a list loaded, the rows it names gathered, eight rows sent out. Each begins with its buffers
   handed over and its semaphore at zero, and its wait hands back what the copy delivers. -/
module

public import proofs.«01_k».proof.Proof.Rows

@[expose] public section

noncomputable section

namespace Cert.KernelIdeal.Pool

open Cert.KernelIdeal Cert.KernelIdeal.Gen
open Idealize.ShloMosaic Idealize.ShloMosaic.ValueIdx Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## Arrays that are only read: some share of them, as often as needed -/

/-- Some share of a whole buffer holding `f`. -/
def Some' (ℓ : Loc nD τ sig) (f : Buf (Elt F) ℓ) : sProp (M F) := iprop(∃ q : PosShare TreeShare, ℓ ↦{q} f)

theorem some_two (ℓ : Loc nD τ sig) (f : Buf (Elt F) ℓ) : Some' ℓ f ⊢ iprop(Some' ℓ f ∗ Some' ℓ f) := by
  unfold Some'
  iintro ⟨%q, H⟩
  ihave H' := (pointsTo_share (PosShare.mem_left_op_right q)).1 $$ H
  icases H' with ⟨H1, H2⟩
  isplitl [H1]
  · iexists _; iexact H1
  · iexists _; iexact H2

/-- A share for some of the elements, the rest forgotten. -/
theorem some_take (ℓ : Loc nD τ sig) (f : Buf (Elt F) ℓ) (S : Finset (Idx ℓ)) :
    Some' ℓ f ⊢ iprop(Some' ℓ f ∗ ∃ q : PosShare TreeShare, ℓ ↦[S]{q} f) := by
  refine (some_two ℓ f).trans ?_
  iintro ⟨H1, H2⟩
  isplitl [H1]; · iexact H1
  unfold Some'
  icases H2 with ⟨%q, H⟩
  ihave H' := (pointsTo_split_subset (ℓ := ℓ) (q := q) (f := f) (S := Finset.univ) (Finset.subset_univ S)).1 $$ H
  icases H' with ⟨H, -⟩
  iexists q
  iexact H

/-! ## What the arrays hold, at numbers -/

/-- Word `n` of the list of row numbers. -/
def word (l : S327680.Idx → BitVec 32) (n : ℕ) : BitVec 32 := l (ix1 (⟨min n 327679, by omega⟩ : Fin 327680))

/-- The 128 words of chunk `c` of the list. -/
def chunk (l : S327680.Idx → BitVec 32) (c : ℕ) : S128.Idx → BitVec 32 := fun x => word l (128 * c + (x 0).val)

/-- The table at two numbers. -/
def cell (t : S10000x128.Idx → F .f32) (r c : ℕ) : F .f32 :=
  t (ix2 (⟨min r 9999, by omega⟩ : Fin 10000) (⟨min c 127, by omega⟩ : Fin 128))

/-- The 128 rows of the table that chunk `c` of the list names. -/
def gathered (t : S10000x128.Idx → F .f32) (l : S327680.Idx → BitVec 32) (c : ℕ) : S128x128.Idx → F .f32 :=
  fun y => cell t (word l (128 * c + (y 0).val)).toNat (y 1).val

/-- Chunk `c` of the list, as a copy names it. -/
abbrev chunkAt (list : ListRef) (c : ℕ) : Memref sig .scVector .hbm S128 .i32 :=
  listAt list ![128 * min c 2559] (fun a => by fin_cases a; change 128 * min c 2559 + 128 ≤ 327680; omega)

/-- Eight rows of the result, as a copy names them. -/
abbrev rowsAt (res : TableRef) (g : ℕ) : Memref sig .scVector .hbm S8x128 .f32 :=
  outAt res ![8 * min g 1249, 0] (fun a => by
    fin_cases a
    · change 8 * min g 1249 + 8 ≤ 10000; omega
    · change 0 + 128 ≤ 128; omega)

theorem listAt_eq (list : ListRef) (off : Fin 1 → Nat) (h) (c : ℕ) (hc : c < 2560) (ho : off = ![128 * c]) :
    listAt list off h = chunkAt list c := by
  subst ho
  have : min c 2559 = c := by omega
  congr 2
  rw [this]

theorem outAt_eq (res : TableRef) (off : Fin 2 → Nat) (h) (g : ℕ) (hg : g < 1250) (ho : off = ![8 * g, 0]) :
    outAt res off h = rowsAt res g := by
  subst ho
  have : min g 1249 = g := by omega
  congr 2
  rw [this]

variable [FloatOps F] (d : Dev nD) (i : grid0.Coords)

theorem chunk_read (list : ListRef) (c : ℕ) (hc : c < 2560) (f : Buf (Elt F) (list.view.loc (tid d i))) :
    (chunkAt list c).view.read (Elt F) f = chunk (list.view.read (Elt F) f) c := by
  funext x
  refine (show _ = list.view.read (Elt F) f _ from rfl).trans (congrArg (list.view.read (Elt F) f) ?_)
  funext a
  apply Fin.ext
  refine (ValueKit.rect_emb_unit_val _ _ _ _ _).trans ?_
  have hx : (x 0).val < 128 := (x 0).isLt
  match a with
  | ⟨0, _⟩ => show 128 * min c 2559 + (x 0).val = min (128 * c + (x 0).val) 327679; omega

theorem rowsAt_read (res : TableRef) (g : ℕ) (hg : g < 1250) (f : Buf (Elt F) (res.view.loc (tid d i))) (y : S8x128.Idx) :
    (rowsAt res g).view.read (Elt F) f y = cell (res.view.read (Elt F) f) (8 * g + (y 0).val) (y 1).val := by
  refine (show _ = res.view.read (Elt F) f _ from rfl).trans (congrArg (res.view.read (Elt F) f) ?_)
  funext a
  apply Fin.ext
  refine (ValueKit.rect_emb_unit_val _ _ _ _ _).trans ?_
  have h0 : (y 0).val < 8 := (y 0).isLt
  have h1 : (y 1).val < 128 := (y 1).isLt
  match a with
  | ⟨0, _⟩ => show 8 * min g 1249 + (y 0).val = min (8 * g + (y 0).val) 9999; omega
  | ⟨1, _⟩ => show 0 + (y 1).val = min (y 1).val 127; omega

/-- The table named whole by a slice is the table. -/
theorem tableAt_read (tbl : TableRef) (f : Buf (Elt F) (tbl.view.loc (tid d i))) (y : S10000x128.Idx) :
    (tableAt tbl).view.read (Elt F) f y = tbl.view.read (Elt F) f y := by
  refine (show _ = tbl.view.read (Elt F) f _ from rfl).trans (congrArg (tbl.view.read (Elt F) f) ?_)
  funext a
  apply Fin.ext
  refine (ValueKit.rect_emb_unit_val _ _ _ _ _).trans ?_
  match a with
  | ⟨0, _⟩ => show 0 + (y 0).val = (y 0).val; omega
  | ⟨1, _⟩ => show 0 + (y 1).val = (y 1).val; omega

/-- What a gather writes: the rows its list names. -/
theorem payload_eq (t : S10000x128.Idx → F .f32) (l : S327680.Idx → BitVec 32) (c : ℕ) (g : S10000x128.Idx → F .f32) (hg : ∀ y, g y = t y)
    (w : S128.Idx → BitVec 32) (hw : w = chunk l c) (hn) (hin) :
    SparseCore.gatherPayload (F := F) (e := .f32) gathers_S10000x128_S128x128 g (SparseCore.rows (F := F) (si := S128) w hn hin) = gathered t l c := by
  subst hw
  funext y
  refine (hg _).trans (congrArg t ?_)
  have hy : (y 0).val < 128 := (y 0).isLt
  have hpos : ((S128.rowMajor.symm ((y 0).cast hn.symm) : S128.Idx) 0).val = (y 0).val := by
    rw [← Shape.rowMajor_val_one, Equiv.apply_symm_apply]; rfl
  funext a
  apply Fin.ext
  match a with
  | ⟨0, _⟩ =>
    have hw := hin (S128.rowMajor.symm ((y 0).cast hn.symm))
    refine (congrArg Fin.val (Shape.Gathers.idx_axis gathers_S10000x128_S128x128 _ y)).trans ?_
    have he : chunk l c (S128.rowMajor.symm ((y 0).cast hn.symm)) = word l (128 * c + (y 0).val) := by
      unfold chunk; rw [hpos]
    show (chunk l c (S128.rowMajor.symm ((y 0).cast hn.symm))).toNat = min (word l (128 * c + (y 0).val)).toNat 9999
    have hw' : (chunk l c (S128.rowMajor.symm ((y 0).cast hn.symm))).toNat < 10000 := hw
    rw [he] at hw' ⊢
    omega
  | ⟨1, h1⟩ =>
    refine (Shape.Gathers.idx_of_ne gathers_S10000x128_S128x128 _ y ⟨1, h1⟩ (Nat.one_ne_zero)).trans ?_
    have h1 : (y 1).val < 128 := (y 1).isLt
    show (y 1).val = min (y 1).val 127
    omega

/-! ## The flights -/

/-- A flight carries along whatever is given to it. -/
theorem flight_frame {c : Thread nD τ} {sm : SemLoc sig} {ι : HIx 1} {N : ℕ} {D R : sProp (M F)} :
    iprop(Flight countersEmb c sm ι N D ∗ R) ⊢ Flight countersEmb c sm ι N iprop(D ∗ R) := by
  unfold Flight
  iintro ⟨⟨⟨%P, HP, %hcap, %hpeek⟩, Hcred⟩, HR⟩
  isplitl [HP HR]
  · iexists iprop(P ∗ R)
    isplitl [HP HR]
    · isplitl [HP] <;> iassumption
    isplit
    · ipureintro
      intro K
      refine BIBase.Entails.trans ?_ (hcap K)
      iintro ⟨⟨HP, HR⟩, HK⟩
      isplitl [HP]; · iexact HP
      iintro ⟨Hv, HD⟩
      iapply HK
      isplitl [Hv]; · iexact Hv
      isplitl [HD] <;> iassumption
    · ipureintro
      intro K
      refine BIBase.Entails.trans ?_ (hpeek K)
      iintro ⟨⟨HP, HR⟩, HK⟩
      isplitl [HP]; · iexact HP
      iintro HP
      iapply HK
      isplitl [HP] <;> iassumption
  · iexact Hcred

/-- A copy on a tile's own semaphore, delivering `D`. -/
abbrev Fly (sem : DmaSem sig) (N : ℕ) (D : sProp (M F)) : sProp (M F) :=
  Flight countersEmb (tid d i) (SemLoc.dma sem) (default : HIx 1) N D

/-- What a copy into a buffer counts is its shape's. -/
theorem credit_eq {cs : Space} {s : Shape} {e : EltTy} (m : Memref sig .scVector cs s e) : m.view.dmaCredit = RefSig.bitCredit s e := rfl

theorem credit_rows (m : RowsRef) :
    ∑ j, (m.slice (S128x128.rowRect gathers_S10000x128_S128x128.axis' j) (S128x128.stride_rowRect gathers_S10000x128_S128x128.axis' j)).view.dmaCredit
      = m.view.dmaCredit := by
  refine (Finset.sum_congr rfl fun j _ => credit_eq _).trans ?_
  show ∑ j : Fin 128, RefSig.bitCredit (S128x128.rowShape gathers_S10000x128_S128x128.axis') .f32 = RefSig.bitCredit S128x128 .f32
  decide

attribute [local irreducible] RefSig.bitCredit

/-- A tile's own semaphore at zero. -/
abbrev idle (sem : DmaSem sig) : sProp (M F) := semVal ((tid d i, SemLoc.dma sem) : GSem nD τ sig) 0

/-- A tile may wait, and its debts are those it began with but for its own waits. -/
def Owed (O : CellTallies nD τ sig (HIx 1)) (W : Waits sig (HIx 1)) : sProp (M F) :=
  iprop(MayWaits (tid d i) (default : HIx 1) O ∗ ∃ W' : Waits sig (HIx 1), ⌜∀ p ∈ W', p ∈ W ∨ p.2 = none⌝ ∗ owes (tid d i) O W')

/-- A buffer's contents as its reference reads them. -/
def Holds {cs : CoreSpace} {s : Shape} {e : EltTy} (m : Memref sig .scVector cs s e) (x : s.Idx → Elt F e) : sProp (M F) :=
  iprop(∃ f : Buf (Elt F) (m.view.loc (tid d i)), ⌜m.view.read (Elt F) f = x⌝ ∗ pts d i m f)

/-- A buffer whatever it holds. -/
def Any {cs : CoreSpace} {s : Shape} {e : EltTy} (m : Memref sig .scVector cs s e) : sProp (M F) :=
  iprop(∃ f : Buf (Elt F) (m.view.loc (tid d i)), pts d i m f)

variable {d i} in
theorem holds_any {cs : CoreSpace} {s : Shape} {e : EltTy} {m : Memref sig .scVector cs s e} {x : s.Idx → Elt F e} :
    Holds d i m x ⊢ Any d i m := by
  unfold Holds Any
  iintro ⟨%f, -, H⟩
  iexists f; iexact H

/-- A half's list on its way. -/
def ListFly (h : Half) (l : S327680.Idx → BitVec 32) (c : ℕ) : sProp (M F) :=
  Fly d i h.isem.sem (RefSig.bitCredit S128 .i32) (Holds d i h.idx (chunk l c))

/-- A half's rows on their way: the list that names them comes back with them. -/
def RowsFly (h : Half) (t : S10000x128.Idx → F .f32) (l : S327680.Idx → BitVec 32) (c : ℕ) : sProp (M F) :=
  Fly d i h.gsem.sem (RefSig.bitCredit S128x128 .f32) iprop(Holds d i h.rows (gathered t l c) ∗ Any d i h.idx)

/-- Eight rows of the result. -/
abbrev item (res : TableRef) (g : ℕ) (f : Buf (Elt F) (res.view.loc (tid d i))) : sProp (M F) :=
  (res.view.loc (tid d i)) ↦[(rowsAt res g).view.set]{fullShare} f

/-! ## Each copy begun and each waited for -/

theorem startIdx_spec (list : ListRef) (fl : Buf (Elt F) (list.view.loc (tid d i))) (h : Half) (c : ℕ) (hc : c < 2560)
    (src : Memref sig .scVector .hbm S128 .i32) (hsrc : src = chunkAt list c) (hs : src.view.WordExact) :
    iprop(Some' (list.view.loc (tid d i)) fl ∗ Any d i h.idx ∗ idle d i h.isem.sem) ⊢ wpT d i (startIdx i src h hs) fun _ =>
      iprop(Some' (list.view.loc (tid d i)) fl ∗ ListFly d i h (list.view.read (Elt F) fl) c) := by
  subst hsrc
  iintro ⟨Hl, Hi, Hv⟩
  ihave Hl' := some_take _ fl (chunkAt list c).view.set $$ Hl
  icases Hl' with ⟨Hl, ⟨%q, Hq⟩⟩
  unfold Any
  icases Hi with ⟨%fi, Hi⟩
  unfold startIdx
  iapply (wp_dmaLocal countersEmb 𝒱₀ (tid d i) none (src := chunkAt list c) (dst := h.idx) (sm := .dma h.isem.sem) (default : HIx 1) (RefSig.bitCredit S128 .i32) (credit_eq h.idx)
    (RefSig.bitCredit_pos _ _ (by decide)) (Finset.Subset.refl _)) $$ [Hq Hi Hv]
  · isplitl [Hq]; · iexact Hq
    isplitl [Hi]; · iexact Hi
    iexact Hv
  iintro Hfl
  rw [wp_ret]
  imodintro
  isplitl [Hl]; · iexact Hl
  unfold ListFly
  iapply (Flight_mono countersEmb (tid d i) (D' := Holds d i h.idx (chunk (list.view.read (Elt F) fl) c)) (by
    iintro ⟨H, -⟩
    unfold Holds
    iexists _
    isplitr
    swap; · iexact H
    ipureintro
    rw [View.read_write_univ]
    exact chunk_read d i list c hc fl)) $$ Hfl

/-- A wait hands back what its copy delivers. -/
theorem wait_spec {sp sp' : Space} {s s' : Shape} {e e' : EltTy} (sem : DmaSem sig) (srcw : Memref sig .scVector sp' s' e') (dstw : Memref sig .scVector sp s e)
    (hsrc : srcw.view.WordExact) (hdst : dstw.view.WordExact) {N : ℕ} (hN : dstw.view.dmaCredit = N) (D : sProp (M F)) (O : CellTallies nD τ sig (HIx 1)) (W : Waits sig (HIx 1)) :
    iprop(Fly d i sem N D ∗ Owed d i O W) ⊢ wpT d i (Prog.op (TpuEff.waitDma2 sem srcw dstw hsrc hdst) Prog.ret) fun _ =>
      iprop(D ∗ idle d i sem ∗ Owed d i O W) := by
  unfold Owed
  iintro ⟨Hfl, #Hm, ⟨%W', %hW, HO⟩⟩
  iapply (wp_waitLocalO countersEmb 𝒱₀ (tid d i) none (default : HIx 1) hN) $$ [Hfl HO]
  · isplitl [Hfl]; · iexact Hfl
    isplitl [HO]; · iexact HO
    iapply (MayWaits.elim (SemLoc.dma sem)) $$ Hm
  iintro ⟨HD, Hv, HO⟩
  rw [wp_ret]
  imodintro
  isplitl [HD]; · iexact HD
  isplitl [Hv]; · iexact Hv
  isplitr; · iexact Hm
  iexists _
  isplitr
  swap; · iexact HO
  ipureintro
  intro p hp
  rcases Finset.mem_insert.mp hp with hp | hp
  · exact .inr (hp ▸ rfl)
  · exact hW p hp

theorem waitIdx_spec (src : Memref sig .scVector .hbm S128 .i32) (h : Half) (hs : src.view.WordExact) (l : S327680.Idx → BitVec 32) (c : ℕ)
    (O : CellTallies nD τ sig (HIx 1)) (W : Waits sig (HIx 1)) :
    iprop(ListFly d i h l c ∗ Owed d i O W) ⊢ wpT d i (waitIdx (F := F) i src h hs) fun _ =>
      iprop(Holds d i h.idx (chunk l c) ∗ idle d i h.isem.sem ∗ Owed d i O W) :=
  wait_spec d i h.isem.sem src h.idx hs h.hidx.wordExact (credit_eq h.idx) _ O W

theorem waitGather_spec (tbl : TableRef) (h : Half) (t : S10000x128.Idx → F .f32) (l : S327680.Idx → BitVec 32) (c : ℕ)
    (O : CellTallies nD τ sig (HIx 1)) (W : Waits sig (HIx 1)) :
    iprop(RowsFly d i h t l c ∗ Owed d i O W) ⊢ wpT d i (waitGather (F := F) i tbl h) fun _ =>
      iprop((Holds d i h.rows (gathered t l c) ∗ Any d i h.idx) ∗ idle d i h.gsem.sem ∗ Owed d i O W) :=
  wait_spec d i h.gsem.sem (tableAt tbl) h.rows (View.wordExact_bits rfl) h.hrows.wordExact (credit_eq h.rows) _ O W

theorem waitOut_spec (dst : Memref sig .scVector .hbm S8x128 .f32) (s : Slot) (hd : dst.view.WordExact) (D : sProp (M F))
    (O : CellTallies nD τ sig (HIx 1)) (W : Waits sig (HIx 1)) :
    iprop(Fly d i s.ssem.sem (RefSig.bitCredit S8x128 .f32) D ∗ Owed d i O W) ⊢ wpT d i (waitOut (F := F) i dst s hd) fun _ =>
      iprop(D ∗ idle d i s.ssem.sem ∗ Owed d i O W) :=
  wait_spec d i s.ssem.sem s.out dst s.hout.wordExact hd (credit_eq dst) D O W

theorem startGather_spec (tbl : TableRef) (ft : Buf (Elt F) (tbl.view.loc (tid d i))) (h : Half) (l : S327680.Idx → BitVec 32) (c : ℕ)
    (hl : ∀ n, (word l n).toNat < 10000) :
    iprop(Some' (tbl.view.loc (tid d i)) ft ∗ Holds d i h.idx (chunk l c) ∗ Any d i h.rows ∗ idle d i h.gsem.sem) ⊢ wpT d i (startGather i tbl h) fun _ =>
      iprop(Some' (tbl.view.loc (tid d i)) ft ∗ RowsFly d i h (tbl.view.read (Elt F) ft) l c) := by
  iintro ⟨Ht, Hi, Hr, Hv⟩
  ihave Ht' := some_take _ ft (tableAt tbl).view.set $$ Ht
  icases Ht' with ⟨Ht, ⟨%q, Hq⟩⟩
  unfold Any Holds
  icases Hi with ⟨%fi, %hfi, Hi⟩
  icases Hr with ⟨%fr, Hr⟩
  unfold startGather
  have hin : ∀ x, (h.idx.view.read (Elt F) fi x).toNat < S10000x128.size gathers_S10000x128_S128x128.axis := by
    intro x
    rw [hfi]
    exact hl _
  iapply (SparseCore.wp_indirectGatherLocal countersEmb 𝒱₀ (tid d i) none (src := tableAt tbl) (dst := h.rows) (offs := h.idx) (hg := gathers_S10000x128_S128x128)
    (hp := rfl) (hn := rfl) (hsrc := View.wordExact_bits rfl) (he := rfl) (hsp := Or.inl rfl) (hr := by decide) (sem := h.gsem.sem) (k := Prog.ret) (default : HIx 1) (RefSig.bitCredit S128x128 .f32) ((credit_rows h.rows).trans (credit_eq h.rows)) (by decide) hin) $$ [Hq Hi Hr Hv]
  · isplitl [Hq]; · iexact Hq
    isplitl [Hr]; · iexact Hr
    isplitl [Hi]; · iexact Hi
    iexact Hv
  iintro Hfl
  rw [wp_ret]
  imodintro
  isplitl [Ht]; · iexact Ht
  unfold RowsFly
  iapply (Flight_mono countersEmb (tid d i) (D' := iprop(Holds d i h.rows (gathered (tbl.view.read (Elt F) ft) l c) ∗ Any d i h.idx)) (by
    iintro ⟨H, -, Hi⟩
    unfold Holds Any
    isplitl [H]
    · iexists _
      isplitr
      swap; · iexact H
      ipureintro
      rw [View.read_write_univ]
      exact payload_eq (tbl.view.read (Elt F) ft) l c _ (tableAt_read d i tbl ft) _ hfi _ _
    · iexists _; iexact Hi)) $$ Hfl

theorem startOut_spec (res : TableRef) (f G : Buf (Elt F) (res.view.loc (tid d i))) (s : Slot) (g : ℕ)
    (x : S8x128.Idx → F .f32) (hG : (rowsAt res g).view.read (Elt F) G = x)
    (dst : Memref sig .scVector .hbm S8x128 .f32) (hdst : dst = rowsAt res g) (hd : dst.view.WordExact) :
    iprop(Holds d i s.out x ∗ item d i res g f ∗ idle d i s.ssem.sem) ⊢ wpT d i (startOut i dst s hd) fun _ =>
      Fly d i s.ssem.sem (RefSig.bitCredit S8x128 .f32) iprop(Any d i s.out ∗ item d i res g G) := by
  subst hdst
  unfold Holds
  iintro ⟨⟨%fo, %hfo, Ho⟩, Hg, Hv⟩
  have hc : ∀ j ∈ (rowsAt res g).view.set, (rowsAt res g).view.write (Elt F) f (ReadAs.same.apply (s.out.view.read (Elt F) fo)) Finset.univ j = G j := by
    intro j hj
    obtain ⟨y, -, rfl⟩ := Finset.mem_map.mp hj
    have hy := congrFun ((View.read_write_univ (Val := Elt F) (v := (rowsAt res g).view) f (s.out.view.read (Elt F) fo)).trans (hfo.trans hG.symm)) y
    rw [View.read_apply, View.read_apply] at hy
    exact (cast_inj _).mp hy
  unfold startOut
  iapply (wp_dmaLocal countersEmb 𝒱₀ (tid d i) none (src := s.out) (dst := rowsAt res g) (sm := .dma s.ssem.sem) (q := fullShare) (fs := fo) (fd := f) (Sd := (rowsAt res g).view.set)
    (default : HIx 1) (RefSig.bitCredit S8x128 .f32) (credit_eq (rowsAt res g)) (RefSig.bitCredit_pos _ _ (by decide)) (Finset.Subset.refl _)) $$ [Ho Hg Hv]
  · isplitl [Ho]; · iexact Ho
    isplitl [Hg]; · iexact Hg
    iexact Hv
  iintro Hfl
  rw [wp_ret]
  imodintro
  iapply (Flight_mono countersEmb (tid d i) (D' := iprop(Any d i s.out ∗ item d i res g G)) (by
    iintro ⟨H, Ho⟩
    unfold Any
    isplitl [Ho]; · iexists _; iexact Ho
    iapply (Entails.of_eq (pointsTo_congr hc)) $$ H)) $$ Hfl

end Cert.KernelIdeal.Pool

end
-- ==== Proof.Step.lean ====
/- One step of a tile: the slot two ahead goes from loading its lists to gathering, and the slot whose turn it is computes
   its eight rows, sends them, and begins loading the lists it takes three steps on. -/
module

public import proofs.«01_k».proof.Proof.Copies

@[expose] public section

noncomputable section

namespace Cert.KernelIdeal.Pool

open Cert.KernelIdeal Cert.KernelIdeal.Gen
open Idealize.ShloMosaic Idealize.ShloMosaic.ValueIdx Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program with a known triple, then the rest. -/
theorem wpT_step (d : Dev nD) (i : grid0.Coords) {α β : Type} {p : TileProg F i α} {k : α → TileProg F i β} {P : sProp (M F)} {Q : α → sProp (M F)}
    {R : β → sProp (M F)} (hp : P ⊢ wpT d i p Q) : P ⊢ iprop((∀ a, Q a -∗ wpT d i (k a) R) -∗ wpT d i (p >>= k) R) := by
  iintro HP HR
  iapply (Entails.of_eq (wp_bind _ _ _ p k R).symm)
  ihave Hw := hp $$ HP
  iapply (wp_wand_r _ _ _ (Q := Q)) $$ [Hw HR]
  isplitl [Hw]; · iexact Hw
  iexact HR

/-- What a tile works with: the arrays' references and contents, where its part of the result begins (in groups of eight
    rows), how many groups it has, and what the result ends up holding. -/
structure Env (F : FTy → Type) [FloatOps F] (d : Dev nD) (i : grid0.Coords) where
  tbl : TableRef
  list : ListRef
  res : TableRef
  ft : Buf (Elt F) (tbl.view.loc (tid d i))
  fl : Buf (Elt F) (list.view.loc (tid d i))
  /-- the result before -/
  f₀ : Buf (Elt F) (res.view.loc (tid d i))
  /-- the result after -/
  G : Buf (Elt F) (res.view.loc (tid d i))
  lo : ℕ
  n : ℕ
  hn : lo + n ≤ 1250
  hl : ∀ k, (word (list.view.read (Elt F) fl) k).toNat < 10000
  hG : ∀ g, g < 1250 → (rowsAt res g).view.read (Elt F) G = fun y =>
    outVal (gathered (tbl.view.read (Elt F) ft) (list.view.read (Elt F) fl) (2 * g)) (gathered (tbl.view.read (Elt F) ft) (list.view.read (Elt F) fl) (2 * g + 1))
      oneOf32 (y 0).val (y 1).val
  O : CellTallies nD τ sig (HIx 1)
  W : Waits sig (HIx 1)

variable {d : Dev nD} {i : grid0.Coords} (E : Env F d i)

namespace Env

/-- The table as numbers, and the list. -/
abbrev t : S10000x128.Idx → F .f32 := E.tbl.view.read (Elt F) E.ft
abbrev l : S327680.Idx → BitVec 32 := E.list.view.read (Elt F) E.fl

/-- The table and the list to read, and the right to wait. -/
def Common : sProp (M F) :=
  iprop(Some' (E.tbl.view.loc (tid d i)) E.ft ∗ Some' (E.list.view.loc (tid d i)) E.fl ∗ Owed d i E.O E.W)

/-- Group `k` of the tile, written; not yet written. -/
def done (k : ℕ) : sProp (M F) := item d i E.res (E.lo + k) E.G
def todo (k : ℕ) : sProp (M F) := item d i E.res (E.lo + k) E.f₀

/-- A half's list between uses, and on its way; its rows between uses; its rows on their way, the list with them. -/
def ListIdle (_ : Env F d i) (h : Half) : sProp (M F) := iprop(Any d i h.idx ∗ idle d i h.isem.sem)
def RowsIdle (_ : Env F d i) (h : Half) : sProp (M F) := iprop(Any d i h.rows ∗ idle d i h.gsem.sem)
def HalfRows (h : Half) (c : ℕ) : sProp (M F) := iprop(RowsFly d i h E.t E.l c ∗ idle d i h.isem.sem)

/-- A slot's lists for group `k` on their way, if there is such a group. -/
def Fetch (s : Slot) (k : ℕ) : sProp (M F) :=
  if k < E.n then iprop(ListFly d i s.A E.l (2 * (E.lo + k)) ∗ ListFly d i s.B E.l (2 * (E.lo + k) + 1)) else iprop(E.ListIdle s.A ∗ E.ListIdle s.B)

/-- A slot that waits for no rows and has sent for its lists. -/
def Lists (s : Slot) (k : ℕ) : sProp (M F) := iprop(E.Fetch s k ∗ E.RowsIdle s.A ∗ E.RowsIdle s.B)

/-- A slot whose rows for group `k` are on their way, if there is such a group. -/
def Rows (s : Slot) (k : ℕ) : sProp (M F) :=
  if k < E.n then iprop(E.HalfRows s.A (2 * (E.lo + k)) ∗ E.HalfRows s.B (2 * (E.lo + k) + 1))
  else iprop((E.ListIdle s.A ∗ E.ListIdle s.B) ∗ E.RowsIdle s.A ∗ E.RowsIdle s.B)

/-- The groups before `k` that share `k`'s slot, written. -/
def Bag : ℕ → sProp (M F)
  | k + 3 => if k < E.n then iprop(Bag k ∗ E.done k) else Bag k
  | _ => iprop(emp)

/-- A slot's eight output rows when its next group is `k`: unused so far, or on their way with all the slot has written. -/
def Out (s : Slot) (k : ℕ) : sProp (M F) :=
  if k < 3 then iprop(Any d i s.out ∗ idle d i s.ssem.sem) else Fly d i s.ssem.sem (RefSig.bitCredit S8x128 .f32) iprop(Any d i s.out ∗ E.Bag k)

/-- A plan is step `j`'s. -/
structure IsStep (j : ℕ) (w : Plan) : Prop where
  pre : w.pre = 1#1 ↔ j + 2 < E.n
  offPre : ∀ r : Fin 2, w.offPre (BitVec.ofNat 32 (128 * r.val)) = ![128 * (2 * (E.lo + (j + 2)) + r.val)]
  main : w.main = 1#1 ↔ j < E.n
  offNew : w.offNew = ![8 * (E.lo + j), 0]
  next : w.next = 1#1 ↔ j + 3 < E.n
  offNext : ∀ r : Fin 2, w.offNext (BitVec.ofNat 32 (128 * r.val)) = ![128 * (2 * (E.lo + (j + 3)) + r.val)]
  old : w.old = 1#1 ↔ 3 ≤ j

/-! ## A half's copies -/

theorem half_start (h : Half) (c : ℕ) (hc : c < 2560) (src : Memref sig .scVector .hbm S128 .i32) (hsrc : src = chunkAt E.list c) (hs : src.view.WordExact) :
    iprop(E.Common ∗ E.ListIdle h) ⊢ wpT d i (startIdx i src h hs) fun _ => iprop(E.Common ∗ ListFly d i h E.l c) := by
  refine BIBase.Entails.trans ?_ (wpT_mono d i (wpT_frame d i (R := iprop(Some' (E.tbl.view.loc (tid d i)) E.ft ∗ Owed d i E.O E.W))
    (startIdx_spec d i E.list E.fl h c hc src hsrc hs)) fun _ => ?_)
  · unfold Common ListIdle
    iintro ⟨⟨Ht, Hl, HO⟩, Hi, Hvi⟩
    isplitl [Hl Hi Hvi]
    · isplitl [Hl]; · iexact Hl
      isplitl [Hi] <;> iassumption
    isplitl [Ht] <;> iassumption
  · unfold Common
    iintro ⟨⟨Hl, Hf⟩, Ht, HO⟩
    isplitl [Ht Hl HO]
    · isplitl [Ht]; · iexact Ht
      isplitl [Hl] <;> iassumption
    iexact Hf

theorem half_gather {β : Type} (h : Half) (c : ℕ) (src : Memref sig .scVector .hbm S128 .i32) (hs : src.view.WordExact) {k : PUnit → TileProg F i β} {R : β → sProp (M F)} :
    iprop(E.Common ∗ ListFly d i h E.l c ∗ E.RowsIdle h) ⊢ iprop((iprop(E.Common ∗ E.HalfRows h c) -∗ wpT d i (k ⟨⟩) R) -∗
      wpT d i (waitIdx i src h hs >>= fun _ => startGather i E.tbl h >>= k) R) := by
  unfold Common RowsIdle HalfRows
  iintro ⟨⟨Ht, Hl, HO⟩, Hf, Hr, Hvg⟩ Hk
  iapply (wpT_step d i (waitIdx_spec d i src h hs E.l c E.O E.W)) $$ [Hf HO]
  · isplitl [Hf] <;> iassumption
  iintro %_ ⟨Hi, Hvi, HO⟩
  iapply (wpT_step d i (startGather_spec d i E.tbl E.ft h E.l c E.hl)) $$ [Ht Hi Hr Hvg]
  · isplitl [Ht]; · iexact Ht
    isplitl [Hi]; · iexact Hi
    isplitl [Hr] <;> iassumption
  iintro %_ ⟨Ht, Hg⟩
  iapply Hk
  isplitl [Ht Hl HO]
  · isplitl [Ht]; · iexact Ht
    isplitl [Hl] <;> iassumption
  isplitl [Hg] <;> iassumption

theorem half_wait (h : Half) (c : ℕ) :
    iprop(E.Common ∗ E.HalfRows h c) ⊢ wpT d i (waitGather i E.tbl h) fun _ =>
      iprop(E.Common ∗ (Holds d i h.rows (gathered E.t E.l c) ∗ idle d i h.gsem.sem) ∗ E.ListIdle h) := by
  refine BIBase.Entails.trans ?_ (wpT_mono d i (wpT_frame d i (R := iprop(Some' (E.tbl.view.loc (tid d i)) E.ft ∗ Some' (E.list.view.loc (tid d i)) E.fl ∗ idle d i h.isem.sem))
    (waitGather_spec d i E.tbl h E.t E.l c E.O E.W)) fun _ => ?_)
  · unfold Common HalfRows
    iintro ⟨⟨Ht, Hl, HO⟩, Hf, Hvi⟩
    isplitl [Hf HO]
    · isplitl [Hf] <;> iassumption
    isplitl [Ht]; · iexact Ht
    isplitl [Hl] <;> iassumption
  · unfold Common ListIdle
    iintro ⟨⟨⟨Hr, Hi⟩, Hvg, HO⟩, Ht, Hl, Hvi⟩
    isplitl [Ht Hl HO]
    · isplitl [Ht]; · iexact Ht
      isplitl [Hl] <;> iassumption
    isplitl [Hr Hvg]
    · isplitl [Hr] <;> iassumption
    isplitl [Hi] <;> iassumption

/-! ## A step's two parts -/

theorem stepPre_spec (p : Slot) (j : ℕ) (w : Plan) (hw : E.IsStep j w) :
    iprop(E.Common ∗ E.Lists p (j + 2)) ⊢ wpT d i (stepPre i E.tbl E.list p w) fun _ => iprop(E.Common ∗ E.Rows p (j + 2)) := by
  unfold stepPre Lists Fetch Rows
  by_cases h : w.pre = 1#1
  · rw [dif_pos h]
    have hj := hw.pre.mp h
    rw [if_pos hj, if_pos hj]
    iintro ⟨HC, ⟨HA, HB⟩, HrA, HrB⟩
    iapply (E.half_gather p.A) $$ [HC HA HrA]
    · isplitl [HC]; · iexact HC
      isplitl [HA] <;> iassumption
    iintro ⟨HC, HA⟩
    iapply (E.half_gather p.B) $$ [HC HB HrB]
    · isplitl [HC]; · iexact HC
      isplitl [HB] <;> iassumption
    iintro ⟨HC, HB⟩
    iapply (wpT_ret d i BIBase.Entails.refl)
    isplitl [HC]; · iexact HC
    isplitl [HA] <;> iassumption
  · rw [dif_neg h]
    have hj := mt hw.pre.mpr h
    rw [if_neg hj, if_neg hj]
    exact wpT_ret d i BIBase.Entails.refl

/-- A slot's two lists begin loading. -/
theorem fetch (s : Slot) (k : ℕ) (c : BitVec 1) (hc : c = 1#1 ↔ k < E.n) (off : BitVec 32 → Fin 1 → Nat)
    (ho : c = 1#1 → ∀ (r : Fin 2) (a), off (BitVec.ofNat 32 (128 * r.val)) a + S128.size a ≤ S327680.size a)
    (hoff : ∀ r : Fin 2, off (BitVec.ofNat 32 (128 * r.val)) = ![128 * (2 * (E.lo + k) + r.val)]) :
    iprop(E.Common ∗ E.ListIdle s.A ∗ E.ListIdle s.B) ⊢ wpT d i (load i E.list s c off ho) fun _ => iprop(E.Common ∗ E.Fetch s k) := by
  have hn := E.hn
  unfold load Fetch
  by_cases h : c = 1#1
  · rw [dif_pos h]
    have hk := hc.mp h
    rw [if_pos hk]
    iintro ⟨HC, HA, HB⟩
    iapply (wpT_step d i (E.half_start s.A (2 * (E.lo + k)) (by omega) _ (listAt_eq E.list _ _ _ (by omega) (hoff 0)) _)) $$ [HC HA]
    · isplitl [HC] <;> iassumption
    iintro %_ ⟨HC, HA⟩
    iapply (wpT_step d i (E.half_start s.B (2 * (E.lo + k) + 1) (by omega) _ (listAt_eq E.list _ _ _ (by omega) (hoff 1)) _)) $$ [HC HB]
    · isplitl [HC] <;> iassumption
    iintro %_ ⟨HC, HB⟩
    iapply (wpT_ret d i BIBase.Entails.refl)
    isplitl [HC]; · iexact HC
    isplitl [HA] <;> iassumption
  · rw [dif_neg h, if_neg (mt hc.mpr h)]
    exact wpT_ret d i BIBase.Entails.refl

/-- The rows a slot sent before come back, written. -/
theorem old_spec (s : Slot) (j : ℕ) (w : Plan) (hw : E.IsStep j w) (hm : w.main = 1#1) :
    iprop(E.Common ∗ E.Out s j) ⊢ wpT d i (stepOld i E.res s w hm) fun _ => iprop(E.Common ∗ (Any d i s.out ∗ idle d i s.ssem.sem) ∗ E.Bag j) := by
  unfold stepOld Out
  by_cases h : w.old = 1#1
  · rw [dif_pos h]
    have hj := hw.old.mp h
    rw [if_neg (by omega)]
    unfold Common
    iintro ⟨⟨Ht, Hl, HO⟩, Hf⟩
    iapply (wpT_step d i (waitOut_spec d i _ s _ _ E.O E.W)) $$ [Hf HO]
    · isplitl [Hf] <;> iassumption
    iintro %_ ⟨⟨Ho, Hb⟩, Hv, HO⟩
    iapply (wpT_ret d i BIBase.Entails.refl)
    isplitl [Ht Hl HO]
    · isplitl [Ht]; · iexact Ht
      isplitl [Hl] <;> iassumption
    isplitl [Ho Hv]
    · isplitl [Ho] <;> iassumption
    iexact Hb
  · rw [dif_neg h]
    have hj : j < 3 := by by_contra hc; exact h (hw.old.mpr (by omega))
    rw [if_pos hj]
    refine wpT_ret d i ?_
    iintro ⟨HC, Ho⟩
    isplitl [HC]; · iexact HC
    isplitl [Ho]; · iexact Ho
    match j, hj with
    | 0, _ | 1, _ | 2, _ => unfold Bag; iempintro

theorem out_next (s : Slot) (j : ℕ) (hj : j < E.n) :
    iprop(Fly d i s.ssem.sem (RefSig.bitCredit S8x128 .f32) iprop(Any d i s.out ∗ E.done j) ∗ E.Bag j) ⊢ E.Out s (j + 3) := by
  unfold Out
  rw [if_neg (by omega)]
  refine flight_frame.trans (Flight_mono countersEmb (tid d i) ?_)
  conv => rhs; unfold Bag
  rw [if_pos hj]
  iintro ⟨⟨Ho, Hd⟩, Hb⟩
  isplitl [Ho]; · iexact Ho
  isplitl [Hb] <;> iassumption

theorem stepMain_spec (s : Slot) (j : ℕ) (w : Plan) (hw : E.IsStep j w) (hm : w.main = 1#1) :
    iprop(E.Common ∗ E.Rows s j ∗ E.Out s j ∗ E.todo j) ⊢ wpT d i (stepMain i E.tbl E.list E.res s oneOf32 w) fun _ =>
      iprop(E.Common ∗ E.Lists s (j + 3) ∗ E.Out s (j + 3)) := by
  have hn := E.hn
  have hj := hw.main.mp hm
  unfold stepMain Rows
  rw [dif_pos hm, if_pos hj]
  iintro ⟨HC, ⟨HA, HB⟩, Ho, Hg⟩
  iapply (wpT_step d i (E.half_wait s.A _)) $$ [HC HA]
  · isplitl [HC] <;> iassumption
  iintro %_ ⟨HC, ⟨HrA, HvA⟩, HiA⟩
  iapply (wpT_step d i (E.half_wait s.B _)) $$ [HC HB]
  · isplitl [HC] <;> iassumption
  iintro %_ ⟨HC, ⟨HrB, HvB⟩, HiB⟩
  iapply (wpT_step d i (E.fetch s (j + 3) w.next hw.next w.offNext (w.hNext hm) hw.offNext)) $$ [HC HiA HiB]
  · isplitl [HC]; · iexact HC
    isplitl [HiA] <;> iassumption
  iintro %_ ⟨HC, Hf⟩
  iapply (wpT_step d i (E.old_spec s j w hw hm)) $$ [HC Ho]
  · isplitl [HC] <;> iassumption
  iintro %_ ⟨HC, ⟨Ho, Hv⟩, Hb⟩
  unfold Holds Any
  icases HrA with ⟨%fA, %hA, HrA⟩
  icases HrB with ⟨%fB, %hB, HrB⟩
  icases Ho with ⟨%fo, Ho⟩
  iapply (wpT_step d i (compute_spec d i s oneOf32 fA fB fo)) $$ [HrA HrB Ho]
  · isplitl [HrA]; · iexact HrA
    isplitl [HrB] <;> iassumption
  iintro %_ ⟨HrA, HrB, ⟨%f, %hf, Ho⟩⟩
  ihave Hs := (startOut_spec d i E.res E.f₀ E.G s (E.lo + j) _ (E.hG _ (by omega)) (outAt E.res w.offNew (w.hNew hm))
    (outAt_eq E.res _ _ _ (by omega) hw.offNew) (View.wordExact_bits rfl)) $$ [Ho Hg Hv]
  · isplitl [Ho]
    · unfold Holds
      iexists f
      isplitr
      · ipureintro; funext y; rw [hf y, hA, hB]
      iexact Ho
    isplitl [Hg]; · unfold todo; iexact Hg
    iexact Hv
  iapply (wp_wand_r _ _ _) $$ [Hs HC Hf HrA HrB HvA HvB Hb]
  isplitl [Hs]; · iexact Hs
  iintro %_ Hfl
  isplitl [HC]; · iexact HC
  isplitl [Hf HrA HrB HvA HvB]
  · unfold Lists RowsIdle Any
    isplitl [Hf]; · iexact Hf
    isplitl [HrA HvA]
    · isplitl [HrA]; · iexists fA; iexact HrA
      iexact HvA
    isplitl [HrB]; · iexists fB; iexact HrB
    iexact HvB
  iapply (E.out_next s j hj)
  isplitl [Hfl]; · iexact Hfl
  iexact Hb

/-- Past the last group a slot's state is the same at every number. -/
theorem rows_past (s : Slot) (j : ℕ) (hj : ¬ j < E.n) : E.Rows s j ⊢ E.Lists s (j + 3) := by
  unfold Rows Lists Fetch
  rw [if_neg hj, if_neg (by omega)]

theorem out_past (s : Slot) (j : ℕ) (hj : ¬ j < E.n) (h3 : 3 ≤ j) : E.Out s j ⊢ E.Out s (j + 3) := by
  unfold Out
  rw [if_neg (by omega), if_neg (by omega)]
  conv => rhs; unfold Bag
  rw [if_neg hj]

/-- The state between steps: `a` is the slot whose turn is group `j`, then `b`, then `c`. -/
def Inv (a b c : Slot) (j : ℕ) : sProp (M F) :=
  iprop(E.Common ∗ bigSep (Finset.Ico j E.n) E.todo ∗ (E.Rows a j ∗ E.Out a j) ∗ (E.Rows b (j + 1) ∗ E.Out b (j + 1)) ∗ E.Lists c (j + 2) ∗ E.Out c (j + 2))

theorem step_spec (h3 : 3 ≤ E.n) (a b c : Slot) (j : ℕ) (w : Plan) (hw : E.IsStep j w) :
    E.Inv a b c j ⊢ wpT d i (stepProg i E.tbl E.list E.res a c oneOf32 w) fun _ => E.Inv b c a (j + 1) := by
  unfold stepProg Inv
  iintro ⟨HC, HT, ⟨Ha, Hoa⟩, Hb, Hc, Hoc⟩
  iapply (wpT_step d i (E.stepPre_spec c j w hw)) $$ [HC Hc]
  · isplitl [HC] <;> iassumption
  iintro %_ ⟨HC, Hc⟩
  by_cases hm : w.main = 1#1
  · have hj := hw.main.mp hm
    have he : (Finset.Ico j E.n).erase j = Finset.Ico (j + 1) E.n := by
      ext x; simp only [Finset.mem_erase, Finset.mem_Ico]; omega
    ihave HT' := (Entails.of_eq (SparseCore.bigSep_erase' (s := Finset.Ico j E.n) (i := j) (Finset.mem_Ico.mpr ⟨le_refl j, hj⟩) (Φ := E.todo))) $$ HT
    rw [he]
    icases HT' with ⟨Hj, HT⟩
    ihave Hs := (E.stepMain_spec a j w hw hm) $$ [HC Ha Hoa Hj]
    · isplitl [HC]; · iexact HC
      isplitl [Ha]; · iexact Ha
      isplitl [Hoa] <;> iassumption
    iapply (wp_wand_r _ _ _) $$ [Hs HT Hb Hc Hoc]
    isplitl [Hs]; · iexact Hs
    iintro %_ ⟨HC, Ha, Hoa⟩
    isplitl [HC]; · iexact HC
    isplitl [HT]; · iexact HT
    isplitl [Hb]; · iexact Hb
    isplitl [Hc Hoc]
    · isplitl [Hc] <;> iassumption
    isplitl [Ha] <;> iassumption
  · have hj := mt hw.main.mpr hm
    unfold stepMain
    rw [dif_neg hm]
    iapply (wpT_ret d i BIBase.Entails.refl)
    isplitl [HC]; · iexact HC
    rw [Finset.Ico_eq_empty (by omega), Finset.Ico_eq_empty (by omega)]
    isplitl [HT]; · iexact HT
    isplitl [Hb]; · iexact Hb
    isplitl [Hc Hoc]
    · isplitl [Hc] <;> iassumption
    isplitl [Ha]
    · iapply (E.rows_past a j hj) $$ Ha
    · iapply (E.out_past a j hj (by omega)) $$ Hoa

end Env

end Cert.KernelIdeal.Pool

end
-- ==== Proof.Tile.lean ====
/- A tile's whole task: its groups of the result written, everything it borrowed back. -/
module

public import proofs.«01_k».proof.Proof.Step

@[expose] public section

noncomputable section

namespace Cert.KernelIdeal.Pool

open Cert.KernelIdeal Cert.KernelIdeal.Gen
open Idealize.ShloMosaic Idealize.ShloMosaic.ValueIdx Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## The numbers of a tile -/

/-- The first group of a tile, forty a tile, -/
def first (i : grid0.Coords) : ℕ := 80 * (i 1).val + 40 * (i 0).val

/-- and how many it has: the last tile has what is left of 1250. -/
def count (i : grid0.Coords) : ℕ := min 40 (1250 - first i)

theorem count_le (i : grid0.Coords) : first i + count i ≤ 1250 ∧ 10 ≤ count i ∧ count i ≤ 40 := by
  have h0 : (i 0).val < 2 := (i 0).isLt
  have h1 : (i 1).val < 16 := (i 1).isLt
  unfold count first
  omega

theorem trips_eq : k0_t1_loop.trips = 14 := by decide

theorem starts : ∀ i : grid0.Coords, (k0_cond1 i = 1#1 ↔ 0 < count i) ∧ (k0_cond2 i = 1#1 ↔ 1 < count i) ∧ (k0_cond3 i = 1#1 ↔ 2 < count i) := by
  decide +kernel

theorem ends : ∀ i : grid0.Coords, k0_cond16 i = 1#1 ∧ k0_cond17 i = 1#1 ∧ k0_cond18 i = 1#1 := by decide +kernel

theorem conds0 : ∀ (i : grid0.Coords) (t : Fin k0_t1_loop.trips), (k0_cond4 i t = 1#1 ↔ 3 * t.val + 2 < count i) ∧
    (k0_cond5 i t = 1#1 ↔ 3 * t.val < count i) ∧ (k0_cond6 i t = 1#1 ↔ 3 * t.val + 3 < count i) := by decide +kernel

theorem conds1 : ∀ (i : grid0.Coords) (t : Fin k0_t1_loop.trips), (k0_cond8 i t = 1#1 ↔ 3 * t.val + 1 + 2 < count i) ∧
    (k0_cond9 i t = 1#1 ↔ 3 * t.val + 1 < count i) ∧ (k0_cond10 i t = 1#1 ↔ 3 * t.val + 1 + 3 < count i) := by decide +kernel

theorem conds2 : ∀ (i : grid0.Coords) (t : Fin k0_t1_loop.trips), (k0_cond12 i t = 1#1 ↔ 3 * t.val + 2 + 2 < count i) ∧
    (k0_cond13 i t = 1#1 ↔ 3 * t.val + 2 < count i) ∧ (k0_cond14 i t = 1#1 ↔ 3 * t.val + 2 + 3 < count i) := by decide +kernel

theorem olds : ∀ t : Fin k0_t1_loop.trips, (k0_cond7 t = 1#1 ↔ 3 ≤ 3 * t.val) ∧ (k0_cond11 t = 1#1 ↔ 3 ≤ 3 * t.val + 1) ∧
    (k0_cond15 t = 1#1 ↔ 3 ≤ 3 * t.val + 2) := by decide +kernel

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18
attribute [local irreducible] k0_off1 k0_off2 k0_off3 k0_off4 k0_off5 k0_off6 k0_off71 k0_off72 k0_off73 k0_off74 k0_off139 k0_off140 k0_off141 k0_off142 k0_off207 k0_off208 k0_off209 k0_off210
attribute [local irreducible] count first

variable {F : FTy → Type} [FloatOps F] {d : Dev nD} {i : grid0.Coords} (E : Env F d i)

namespace Env

/-- The groups are the tile's. -/
structure OfTile : Prop where
  lo : E.lo = first i
  n : E.n = count i

variable {E}

theorem isStep0 (hE : E.OfTile) (t : Fin k0_t1_loop.trips) : E.IsStep (3 * t.val) (plan0 i t) where
  pre := by rw [hE.n]; exact (conds0 i t).1
  offPre r := by
    rw [hE.lo]; refine (k0_off4_eq i t r).trans (congrArg (fun x : ℕ => (![x] : Fin 1 → ℕ)) ?_)
    unfold first; omega
  main := by rw [hE.n]; exact (conds0 i t).2.1
  offNew := by
    rw [hE.lo]; refine (k0_off71_eq i t).trans (congrArg (fun x : ℕ => (![x, 0] : Fin 2 → ℕ)) ?_)
    unfold first; omega
  next := by rw [hE.n]; exact (conds0 i t).2.2
  offNext r := by
    rw [hE.lo]; refine (k0_off5_eq i t r).trans (congrArg (fun x : ℕ => (![x] : Fin 1 → ℕ)) ?_)
    unfold first; omega
  old := (olds t).1

theorem isStep1 (hE : E.OfTile) (t : Fin k0_t1_loop.trips) : E.IsStep (3 * t.val + 1) (plan1 i t) where
  pre := by rw [hE.n]; exact (conds1 i t).1
  offPre r := by
    rw [hE.lo]; refine (k0_off72_eq i t r).trans (congrArg (fun x : ℕ => (![x] : Fin 1 → ℕ)) ?_)
    unfold first; omega
  main := by rw [hE.n]; exact (conds1 i t).2.1
  offNew := by
    rw [hE.lo]; refine (k0_off139_eq i t).trans (congrArg (fun x : ℕ => (![x, 0] : Fin 2 → ℕ)) ?_)
    unfold first; omega
  next := by rw [hE.n]; exact (conds1 i t).2.2
  offNext r := by
    rw [hE.lo]; refine (k0_off73_eq i t r).trans (congrArg (fun x : ℕ => (![x] : Fin 1 → ℕ)) ?_)
    unfold first; omega
  old := (olds t).2.1

theorem isStep2 (hE : E.OfTile) (t : Fin k0_t1_loop.trips) : E.IsStep (3 * t.val + 2) (plan2 i t) where
  pre := by rw [hE.n]; exact (conds2 i t).1
  offPre r := by
    rw [hE.lo]; refine (k0_off140_eq i t r).trans (congrArg (fun x : ℕ => (![x] : Fin 1 → ℕ)) ?_)
    unfold first; omega
  main := by rw [hE.n]; exact (conds2 i t).2.1
  offNew := by
    rw [hE.lo]; refine (k0_off207_eq i t).trans (congrArg (fun x : ℕ => (![x, 0] : Fin 2 → ℕ)) ?_)
    unfold first; omega
  next := by rw [hE.n]; exact (conds2 i t).2.2
  offNext r := by
    rw [hE.lo]; refine (k0_off141_eq i t r).trans (congrArg (fun x : ℕ => (![x] : Fin 1 → ℕ)) ?_)
    unfold first; omega
  old := (olds t).2.2

variable (E)

/-! ## A trip -/

theorem trip_spec (hE : E.OfTile) (s0 s1 s2 : Slot) (t : Fin k0_t1_loop.trips) :
    E.Inv s0 s1 s2 (3 * t.val) ⊢ wpT d i (trip i E.tbl E.list E.res s0 s1 s2 oneOf32 t) fun _ => E.Inv s0 s1 s2 (3 * (t.val + 1)) := by
  have h3 : 3 ≤ E.n := by have := count_le i; rw [hE.n]; omega
  unfold trip
  refine wpT_seq d i (E.step_spec h3 s0 s1 s2 _ _ (isStep0 hE t)) fun _ => ?_
  refine wpT_seq d i (E.step_spec h3 s1 s2 s0 _ _ (isStep1 hE t)) fun _ => ?_
  exact E.step_spec h3 s2 s0 s1 _ _ (isStep2 hE t)

/-! ## Before the trips -/

theorem fill_spec (s : Slot) (k : ℕ) (c : BitVec 1) (hc : c = 1#1 ↔ k < E.n) (off : BitVec 32 → Fin 1 → Nat)
    (ho : c = 1#1 → ∀ (r : Fin 2) (a), off (BitVec.ofNat 32 (128 * r.val)) a + S128.size a ≤ S327680.size a)
    (hoff : ∀ r : Fin 2, off (BitVec.ofNat 32 (128 * r.val)) = ![128 * (2 * (E.lo + k) + r.val)]) :
    iprop(E.Common ∗ (E.ListIdle s.A ∗ E.ListIdle s.B) ∗ E.RowsIdle s.A ∗ E.RowsIdle s.B) ⊢ wpT d i (fill i E.tbl E.list s c off ho) fun _ =>
      iprop(E.Common ∗ E.Rows s k) := by
  have hn := E.hn
  unfold fill Rows
  by_cases h : c = 1#1
  · rw [dif_pos h]
    have hk := hc.mp h
    rw [if_pos hk]
    iintro ⟨HC, ⟨HA, HB⟩, HrA, HrB⟩
    iapply (wpT_step d i (E.half_start s.A (2 * (E.lo + k)) (by omega) _ (listAt_eq E.list _ _ _ (by omega) (hoff 0)) _)) $$ [HC HA]
    · isplitl [HC] <;> iassumption
    iintro %_ ⟨HC, HA⟩
    iapply (E.half_gather s.A) $$ [HC HA HrA]
    · isplitl [HC]; · iexact HC
      isplitl [HA] <;> iassumption
    iintro ⟨HC, HA⟩
    iapply (wpT_step d i (E.half_start s.B (2 * (E.lo + k) + 1) (by omega) _ (listAt_eq E.list _ _ _ (by omega) (hoff 1)) _)) $$ [HC HB]
    · isplitl [HC] <;> iassumption
    iintro %_ ⟨HC, HB⟩
    iapply (E.half_gather s.B) $$ [HC HB HrB]
    · isplitl [HC]; · iexact HC
      isplitl [HB] <;> iassumption
    iintro ⟨HC, HB⟩
    iapply (wpT_ret d i BIBase.Entails.refl)
    isplitl [HC]; · iexact HC
    isplitl [HA] <;> iassumption
  · rw [dif_neg h, if_neg (mt hc.mpr h)]
    exact wpT_ret d i BIBase.Entails.refl

/-! ## After the trips -/

theorem drain_spec (s : Slot) (k : ℕ) (hk : 3 ≤ k) (c : BitVec 1) (hc : c = 1#1) (off : Fin 2 → Nat)
    (ho : c = 1#1 → ∀ a, off a + S8x128.size a ≤ S10000x128.size a) :
    iprop(E.Common ∗ E.Out s k) ⊢ wpT d i (drain i E.res s c off ho) fun _ => iprop(E.Common ∗ (Any d i s.out ∗ idle d i s.ssem.sem) ∗ E.Bag k) := by
  unfold drain Out
  rw [dif_pos hc, if_neg (by omega)]
  unfold Common
  iintro ⟨⟨Ht, Hl, HO⟩, Hf⟩
  iapply (wpT_step d i (waitOut_spec d i _ s _ _ E.O E.W)) $$ [Hf HO]
  · isplitl [Hf] <;> iassumption
  iintro %_ ⟨⟨Ho, Hb⟩, Hv, HO⟩
  iapply (wpT_ret d i BIBase.Entails.refl)
  isplitl [Ht Hl HO]
  · isplitl [Ht]; · iexact Ht
    isplitl [Hl] <;> iassumption
  isplitl [Ho Hv]
  · isplitl [Ho] <;> iassumption
  iexact Hb

/-- What the three slots have written is every group so far. -/
theorem bags (k : ℕ) : iprop(E.Bag k ∗ E.Bag (k + 1) ∗ E.Bag (k + 2)) ⊢ bigSep ((Finset.range k).filter (· < E.n)) E.done := by
  induction k with
  | zero =>
    rw [Finset.range_zero, Finset.filter_empty, BI.bigSep_empty]
    iintro -
    iempintro
  | succ k ih =>
    rw [Finset.range_add_one, Finset.filter_insert]
    rw [show E.Bag (k + 1 + 2) = if k < E.n then iprop(E.Bag k ∗ E.done k) else E.Bag k from rfl]
    by_cases hk : k < E.n
    · rw [if_pos hk, if_pos hk]
      iintro ⟨H1, H2, H0, Hd⟩
      iapply (Entails.of_eq (SparseCore.bigSep_erase' (Finset.mem_insert_self k _) (Φ := E.done)).symm)
      isplitl [Hd]; · iexact Hd
      rw [Finset.erase_insert (by simp)]
      iapply ih
      isplitl [H0]; · iexact H0
      isplitl [H1] <;> iassumption
    · rw [if_neg hk, if_neg hk]
      iintro ⟨H1, H2, H0⟩
      iapply ih
      isplitl [H0]; · iexact H0
      isplitl [H1] <;> iassumption

/-- A slot nothing is under way in. -/
def SlotIdle (s : Slot) : sProp (M F) :=
  iprop(((E.ListIdle s.A ∗ E.ListIdle s.B) ∗ E.RowsIdle s.A ∗ E.RowsIdle s.B) ∗ Any d i s.out ∗ idle d i s.ssem.sem)

/-- The whole task. -/
theorem pool_spec (hE : E.OfTile) (s0 s1 s2 : Slot) :
    iprop(E.Common ∗ bigSep (Finset.range E.n) E.todo ∗ E.SlotIdle s0 ∗ E.SlotIdle s1 ∗ E.SlotIdle s2) ⊢
      wpT d i (pool i E.tbl E.list E.res s0 s1 s2) fun _ =>
        iprop(E.Common ∗ bigSep (Finset.range E.n) E.done ∗ E.SlotIdle s0 ∗ E.SlotIdle s1 ∗ E.SlotIdle s2) := by
  have hc := count_le i
  have hn := hE.n
  unfold pool SlotIdle
  iintro ⟨HC, HT, ⟨H0, Ho0⟩, ⟨H1, Ho1⟩, ⟨H2, Hr2⟩, Ho2⟩
  iapply (wpT_step d i (E.fill_spec s0 0 _ (by rw [hn]; exact (starts i).1) _ _ (fun r => by
    rw [hE.lo]; refine (k0_off1_eq i r).trans (congrArg (fun x : ℕ => (![x] : Fin 1 → ℕ)) ?_); unfold first; omega))) $$ [HC H0]
  · isplitl [HC] <;> iassumption
  iintro %_ ⟨HC, H0⟩
  iapply (wpT_step d i (E.fill_spec s1 1 _ (by rw [hn]; exact (starts i).2.1) _ _ (fun r => by
    rw [hE.lo]; refine (k0_off2_eq i r).trans (congrArg (fun x : ℕ => (![x] : Fin 1 → ℕ)) ?_); unfold first; omega))) $$ [HC H1]
  · isplitl [HC] <;> iassumption
  iintro %_ ⟨HC, H1⟩
  iapply (wpT_step d i (E.fetch s2 2 _ (by rw [hn]; exact (starts i).2.2) _ _ (fun r => by
    rw [hE.lo]; refine (k0_off3_eq i r).trans (congrArg (fun x : ℕ => (![x] : Fin 1 → ℕ)) ?_); unfold first; omega))) $$ [HC H2]
  · isplitl [HC] <;> iassumption
  iintro %_ ⟨HC, H2⟩
  iapply (wpT_step d i (P := E.Inv s0 s1 s2 0) (Q := fun _ => E.Inv s0 s1 s2 42) ?loop) $$ [HC HT H0 H1 H2 Hr2 Ho0 Ho1 Ho2]
  case loop =>
    have hl := Scf.wp_for frame (wpE (defs₀ (F := F)) 𝒱₀ (tid d i) none) Set.univ k0_t1_loop.lb k0_t1_loop.ub k0_t1_loop.st k0_t1_ok PUnit.unit
      (fun t _ => trip i E.tbl E.list E.res s0 s1 s2 oneOf32 t) (fun n _ => E.Inv s0 s1 s2 (3 * n)) (fun t _ => E.trip_spec hE s0 s1 s2 t)
      (Q := fun _ => E.Inv s0 s1 s2 42)
    refine BIBase.Entails.trans ?_ hl
    iintro H
    isplitl [H]; · iexact H
    iintro %_ H
    iexact H
  · unfold Inv Lists Out
    rw [if_pos (by omega), if_pos (by omega), if_pos (by omega)]
    rw [Finset.range_eq_Ico]
    isplitl [HC]; · iexact HC
    isplitl [HT]; · iexact HT
    isplitl [H0 Ho0]
    · isplitl [H0] <;> iassumption
    isplitl [H1 Ho1]
    · isplitl [H1] <;> iassumption
    isplitl [H2 Hr2]
    · isplitl [H2] <;> iassumption
    iexact Ho2
  iintro %_ HI
  unfold Inv Rows Lists Fetch
  rw [if_neg (by omega), if_neg (by omega), if_neg (by omega)]
  icases HI with ⟨HC, -, ⟨H0, Ho0⟩, ⟨H1, Ho1⟩, H2, Ho2⟩
  iapply (wpT_step d i (E.drain_spec s0 42 (by omega) _ (ends i).1 _ _)) $$ [HC Ho0]
  · isplitl [HC] <;> iassumption
  iintro %_ ⟨HC, Ho0, Hb0⟩
  iapply (wpT_step d i (E.drain_spec s1 43 (by omega) _ (ends i).2.1 _ _)) $$ [HC Ho1]
  · isplitl [HC] <;> iassumption
  iintro %_ ⟨HC, Ho1, Hb1⟩
  ihave Hw := (E.drain_spec s2 44 (by omega) _ (ends i).2.2 _ (fun h a => k0_off210_inb i h a)) $$ [HC Ho2]
  · isplitl [HC] <;> iassumption
  iapply (wp_wand_r _ _ _) $$ [Hw H0 H1 H2 Ho0 Ho1 Hb0 Hb1]
  isplitl [Hw]; · iexact Hw
  iintro %_ ⟨HC, Ho2, Hb2⟩
  isplitl [HC]; · iexact HC
  isplitl [Hb0 Hb1 Hb2]
  · have hr : (Finset.range 42).filter (· < E.n) = Finset.range E.n := by
      ext x; simp only [Finset.mem_filter, Finset.mem_range]; omega
    rw [← hr]
    iapply (E.bags 42)
    isplitl [Hb0]; · iexact Hb0
    isplitl [Hb1] <;> iassumption
  isplitl [H0 Ho0]
  · isplitl [H0] <;> iassumption
  isplitl [H1 Ho1]
  · isplitl [H1] <;> iassumption
  isplitl [H2] <;> iassumption

end Env

end Cert.KernelIdeal.Pool

end
-- ==== Proof.Parts.lean ====
/- What the tiles share and what each has to itself: the table and the list of row numbers are read by all, the result's
   rows are dealt out in groups of eight. -/
module

public import proofs.«01_k».proof.Proof.Tile
public import Idealize.ShloMosaic.Lib.KernelVsHost
public import Idealize.ShloMosaic.Lib.Pipeline.ValueKit.Geometry
public import Idealize.ShloMosaic.Lib.Pipeline.Value

@[expose] public section

noncomputable section

namespace Cert.KernelIdeal.Pool

open Cert.KernelIdeal Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-! ## The list -/

/-- The row numbers as one list, zeros after them. -/
def padded (a : S10000x32.Idx → BitVec 32) : S327680.Idx → BitVec 32 :=
  pad S327680 ![0] ![7680] ![0] (shapeCast S320000 a shapeCasts_S10000x32_S320000) (constantI S_ 32 0#32) pads_S320000_S327680_076800 h_S_

/-- Its word `32 r + j` is number `j` of row `r`. -/
theorem padded_inside (a : S10000x32.Idx → BitVec 32) (r : Fin 10000) (j : Fin 32) : word (padded a) (32 * r.val + j.val) = a (ix2 r j) := by
  have hr := r.isLt
  have hj := j.isLt
  unfold word padded
  refine (pad_apply_of_inside _ _ _ _ _ _ _ _ (ix1 (⟨32 * r.val + j.val, by omega⟩ : Fin 320000)) ?_).trans ?_
  · intro x
    obtain rfl : x = 0 := Subsingleton.elim _ _
    show min (32 * r.val + j.val) 327679 = 0 + (32 * r.val + j.val) * (0 + 1)
    omega
  · refine shapeCast_apply _ _ _ _ ?_
    rw [Shape.rowMajor_val_two, Shape.rowMajor_val_one]
    show r.val * 32 + j.val = 32 * r.val + j.val
    omega

/-- Words after the row numbers are zero. -/
theorem padded_after (a : S10000x32.Idx → BitVec 32) (n : ℕ) (hn : 320000 ≤ n) : word (padded a) n = 0#32 := by
  unfold word padded
  refine (pad_apply_of_not_inside _ _ _ _ _ _ _ _ 0 ?_).trans rfl
  intro h
  have h2 : (min n 327679 - 0) / (0 + 1) < 320000 := h.2.2
  omega

/-- Every word of the list names a row when every row number does. -/
theorem padded_lt (a : S10000x32.Idx → BitVec 32) (ha : ∀ x, (a x).toNat < 10000) (n : ℕ) : (word (padded a) n).toNat < 10000 := by
  by_cases h : n < 320000
  · have e := padded_inside a ⟨n / 32, by omega⟩ ⟨n % 32, by omega⟩
    rw [show 32 * (⟨n / 32, by omega⟩ : Fin 10000).val + (⟨n % 32, by omega⟩ : Fin 32).val = n by
      show 32 * (n / 32) + n % 32 = n; omega] at e
    rw [e]; exact ha _
  · rw [padded_after a n (by omega)]; decide

/-! ## The result -/

section Value

variable [FloatOps F]

/-- What the kernel leaves: at row `r` and column `c` the thirty-two rows that row `r` of the list names, added from zero in
    order at column `c`, times a thirty-second. -/
def pooled (t : S10000x128.Idx → F .f32) (l : S327680.Idx → BitVec 32) : S10000x128.Idx → F .f32 := fun x =>
  FloatOps.mulf (sumTo (fun j => cell t (word l (32 * (x 0).val + j)).toNat (x 1).val) 32) oneOf32

theorem sumTo_congr {f g : ℕ → F .f32} (n : ℕ) (h : ∀ j, j < n → f j = g j) : sumTo f n = sumTo g n := by
  induction n with
  | zero => rfl
  | succ n ih => unfold sumTo; rw [ih fun j hj => h j (by omega), h n (by omega)]

/-- Thirty-two rows of a gathered chunk are the rows one output row names. -/
theorem rowVal_gathered (t : S10000x128.Idx → F .f32) (l : S327680.Idx → BitVec 32) (r k q c : ℕ) (hq : q < 4) (hc : c < 128) (hr : 4 * k + q = r) :
    rowVal (gathered t l k) q oneOf32 c = FloatOps.mulf (sumTo (fun j => cell t (word l (32 * r + j)).toNat c) 32) oneOf32 := by
  unfold rowVal
  rw [sumTo_congr 32]
  intro j hj
  show cell t (word l (128 * k + min (32 * q + j) 127)).toNat (min c 127) = _
  rw [show min (32 * q + j) 127 = 32 * q + j by omega, show min c 127 = c by omega, show 128 * k + (32 * q + j) = 32 * r + j by omega]

/-- A group's eight rows of it are what a step computes. -/
theorem pooled_group (t : S10000x128.Idx → F .f32) (l : S327680.Idx → BitVec 32) (g : ℕ) (hg : g < 1250) (y : S8x128.Idx) :
    cell (pooled t l) (8 * g + (y 0).val) (y 1).val = outVal (gathered t l (2 * g)) (gathered t l (2 * g + 1)) oneOf32 (y 0).val (y 1).val := by
  have h0 : (y 0).val < 8 := (y 0).isLt
  have h1 : (y 1).val < 128 := (y 1).isLt
  have e : cell (pooled t l) (8 * g + (y 0).val) (y 1).val
      = FloatOps.mulf (sumTo (fun j => cell t (word l (32 * (8 * g + (y 0).val) + j)).toNat (y 1).val) 32) oneOf32 := by
    show FloatOps.mulf (sumTo (fun j => cell t (word l (32 * min (8 * g + (y 0).val) 9999 + j)).toNat (min (y 1).val 127)) 32) oneOf32 = _
    rw [show min (8 * g + (y 0).val) 9999 = 8 * g + (y 0).val by omega, show min (y 1).val 127 = (y 1).val by omega]
  rw [e]
  unfold outVal
  split
  · exact (rowVal_gathered t l _ _ _ _ (by omega) h1 (by omega)).symm
  · exact (rowVal_gathered t l _ _ _ _ (by omega) h1 (by omega)).symm

end Value

/-! ## Shares of what is read -/

/-- Some share is enough for any number of readers. -/
theorem some_many {I : Type} [DecidableEq I] (s : Finset I) (ℓ : Loc nD τ sig) (f : Buf (Elt F) ℓ) :
    Some' ℓ f ⊢ bigSep s fun _ => Some' ℓ f := by
  induction s using Finset.induction_on with
  | empty => rw [BI.bigSep_empty]; iintro -; iempintro
  | insert a s ha ih =>
    rw [SparseCore.bigSep_insert' ha]
    exact (some_two ℓ f).trans (sep_mono .rfl ih)

/-! ## The result's rows dealt out -/

/-- The result, as a tile names it; its place. -/
abbrev resM : TableRef := Memref.whole main_v2_scv
abbrev resLoc (d : Dev nD) : Loc nD τ sig := (SparseCore.T d).loc main_v2

/-- The elements of group `g`. -/
abbrev groupSet (g : ℕ) : Finset S10000x128.Idx := (rowsAt resM g).view.set

theorem mem_group (g : ℕ) (hg : g < 1250) (x : S10000x128.Idx) : x ∈ groupSet g ↔ (x 0).val / 8 = g := by
  refine ValueKit.mem_set_slice_whole_iff (main_v2_scv : Ref sig .scVector) _ x ?_
  rw [Rect.mem_set_unit]
  have h1 : (x 1).val < 128 := (x 1).isLt
  constructor
  · intro h
    have h0 : 8 * min g 1249 ≤ (x 0).val ∧ (x 0).val < 8 * min g 1249 + 8 := h 0
    omega
  · intro h a
    match a with
    | 0 => show 8 * min g 1249 ≤ (x 0).val ∧ (x 0).val < 8 * min g 1249 + 8; omega
    | 1 => show 0 ≤ (x 1).val ∧ (x 1).val < 0 + 128; omega

/-- The grid point of tile `s` of core `c`. -/
def at' (c : Fin 2) (s : Fin 16) : grid0.Coords :=
  fun | 0 => c | 1 => s | ⟨_ + 2, h⟩ => absurd h (Nat.not_lt.2 (Nat.le_add_left _ _))

/-- A tile's rows of the result. -/
def part (d : Dev nD) (f : Buf (Elt F) (resLoc d)) (i : grid0.Coords) : sProp (M F) :=
  bigSep (Finset.range (count i)) fun k => resLoc d ↦[groupSet (first i + k)]{fullShare} f

/-- The groups of a tile. -/
def groups (p : Fin 2 × Fin 16) : Finset ℕ := (Finset.range (count (at' p.1 p.2))).image (first (at' p.1 p.2) + ·)

theorem mem_groups (p : Fin 2 × Fin 16) (g : ℕ) : g ∈ groups p ↔ g < 1250 ∧ g / 80 = p.2.val ∧ g % 80 / 40 = p.1.val := by
  have h1 := p.1.isLt
  have h2 := p.2.isLt
  have hf : first (at' p.1 p.2) = 80 * p.2.val + 40 * p.1.val := rfl
  have hc : count (at' p.1 p.2) = min 40 (1250 - (80 * p.2.val + 40 * p.1.val)) := rfl
  unfold groups
  rw [Finset.mem_image]
  simp only [Finset.mem_range, hf, hc]
  constructor
  · rintro ⟨k, hk, rfl⟩
    omega
  · rintro ⟨h, ha, hb⟩
    exact ⟨g - (80 * p.2.val + 40 * p.1.val), by omega, by omega⟩

theorem groups_cover : (Finset.univ : Finset (Fin 2 × Fin 16)).biUnion groups = Finset.range 1250 := by
  ext g
  simp only [Finset.mem_biUnion, Finset.mem_univ, true_and, mem_groups, Finset.mem_range]
  constructor
  · rintro ⟨p, h, -⟩
    exact h
  · intro h
    exact ⟨(⟨g % 80 / 40, by omega⟩, ⟨g / 80, by omega⟩), h, rfl, rfl⟩

theorem groups_disjoint : ∀ p ∈ (Finset.univ : Finset (Fin 2 × Fin 16)), ∀ q ∈ (Finset.univ : Finset (Fin 2 × Fin 16)), p ≠ q → Disjoint (groups p) (groups q) := by
  intro p _ q _ h
  rw [Finset.disjoint_left]
  intro g hp hq
  rw [mem_groups] at hp hq
  exact h (Prod.ext (Fin.ext (hp.2.2.symm.trans hq.2.2)) (Fin.ext (hp.2.1.symm.trans hq.2.1)))

theorem groupSets_cover : (Finset.range 1250).biUnion groupSet = Finset.univ := by
  ext x
  have h0 : (x 0).val < 10000 := (x 0).isLt
  simp only [Finset.mem_biUnion, Finset.mem_univ, iff_true]
  exact ⟨(x 0).val / 8, Finset.mem_range.mpr (by omega), (mem_group _ (by omega) x).mpr rfl⟩

theorem groupSets_disjoint : ∀ g ∈ Finset.range 1250, ∀ g' ∈ Finset.range 1250, g ≠ g' → Disjoint (groupSet g) (groupSet g') := by
  intro g hg g' hg' h
  rw [Finset.disjoint_left]
  intro x hx hx'
  rw [mem_group g (Finset.mem_range.mp hg)] at hx
  rw [mem_group g' (Finset.mem_range.mp hg')] at hx'
  exact h (hx.symm.trans hx')

/-- The whole result is the tiles' rows of it, core by core. -/
theorem whole_parts (d : Dev nD) (f : Buf (Elt F) (resLoc d)) :
    (resLoc d ↦{fullShare} f : sProp (M F)) = bigSep Finset.univ fun c : Fin 2 => bigSep Finset.univ fun s : Fin 16 => part d f (at' c s) := by
  have h1 : (resLoc d ↦{fullShare} f : sProp (M F)) = bigSep (Finset.range 1250) fun g => resLoc d ↦[groupSet g]{fullShare} f := by
    rw [← pointsTo_biUnion (Finset.range 1250) (ℓ := resLoc d) groupSet groupSets_disjoint, groupSets_cover]; try rfl
  rw [h1, ← groups_cover, SparseCore.Cfg.bigSep_biUnion_eq _ groups _ groups_disjoint, BI.bigSep_univ_prod]
  refine BI.bigSep_congr fun c _ => BI.bigSep_congr fun s _ => ?_
  unfold part groups
  exact SparseCore.bigSep_image_of_injOn (fun a _ b _ h => Nat.add_left_cancel h) _

end Cert.KernelIdeal.Pool

end
-- ==== Proof.Scratch.lean ====
/- A tile's own buffers and semaphores, as the three slots of its program. -/
module

public import proofs.«01_k».proof.Proof.Tile

@[expose] public section

noncomputable section

namespace Cert.KernelIdeal.Pool

open Cert.KernelIdeal Cert.KernelIdeal.Gen
open Idealize.ShloMosaic Idealize.ShloMosaic.Transfers
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-! ## The slots -/

abbrev slot0 : Slot where
  A := { idx := Memref.whole cc0_scratch0, hidx := Memref.isWhole_whole _, rows := Memref.whole cc0_scratch6, hrows := Memref.isWhole_whole _, isem := cc0_scratch15, gsem := cc0_scratch21 }
  B := { idx := Memref.whole cc0_scratch3, hidx := Memref.isWhole_whole _, rows := Memref.whole cc0_scratch9, hrows := Memref.isWhole_whole _, isem := cc0_scratch18, gsem := cc0_scratch24 }
  out := Memref.whole cc0_scratch12
  hout := Memref.isWhole_whole _
  ssem := cc0_scratch27
abbrev slot1 : Slot where
  A := { idx := Memref.whole cc0_scratch1, hidx := Memref.isWhole_whole _, rows := Memref.whole cc0_scratch7, hrows := Memref.isWhole_whole _, isem := cc0_scratch16, gsem := cc0_scratch22 }
  B := { idx := Memref.whole cc0_scratch4, hidx := Memref.isWhole_whole _, rows := Memref.whole cc0_scratch10, hrows := Memref.isWhole_whole _, isem := cc0_scratch19, gsem := cc0_scratch25 }
  out := Memref.whole cc0_scratch13
  hout := Memref.isWhole_whole _
  ssem := cc0_scratch28
abbrev slot2 : Slot where
  A := { idx := Memref.whole cc0_scratch2, hidx := Memref.isWhole_whole _, rows := Memref.whole cc0_scratch8, hrows := Memref.isWhole_whole _, isem := cc0_scratch17, gsem := cc0_scratch23 }
  B := { idx := Memref.whole cc0_scratch5, hidx := Memref.isWhole_whole _, rows := Memref.whole cc0_scratch11, hrows := Memref.isWhole_whole _, isem := cc0_scratch20, gsem := cc0_scratch26 }
  out := Memref.whole cc0_scratch14
  hout := Memref.isWhole_whole _
  ssem := cc0_scratch29

/-- The buffers of a slot, slot by slot; its semaphores. -/
def slotRefs : Fin 3 → Fin 5 → Ref sig .scVector
  | 0 => ![cc0_scratch0, cc0_scratch3, cc0_scratch6, cc0_scratch9, cc0_scratch12]
  | 1 => ![cc0_scratch1, cc0_scratch4, cc0_scratch7, cc0_scratch10, cc0_scratch13]
  | 2 => ![cc0_scratch2, cc0_scratch5, cc0_scratch8, cc0_scratch11, cc0_scratch14]
def slotSems : Fin 3 → Fin 5 → DmaSem sig
  | 0 => ![cc0_scratch15.sem, cc0_scratch18.sem, cc0_scratch21.sem, cc0_scratch24.sem, cc0_scratch27.sem]
  | 1 => ![cc0_scratch16.sem, cc0_scratch19.sem, cc0_scratch22.sem, cc0_scratch25.sem, cc0_scratch28.sem]
  | 2 => ![cc0_scratch17.sem, cc0_scratch20.sem, cc0_scratch23.sem, cc0_scratch26.sem, cc0_scratch29.sem]

theorem slotRefs_inj : Function.Injective fun p : Fin 3 × Fin 5 => slotRefs p.1 p.2 := by decide
theorem slotSems_inj : Function.Injective fun p : Fin 3 × Fin 5 => slotSems p.1 p.2 := by decide
theorem slotSems_scoped : ∀ p : Fin 3 × Fin 5, (SemLoc.dma (slotSems p.1 p.2) : SemLoc sig).isScoped .scVector = true := by decide
theorem slotRefs_own : ∀ (p : Fin 3 × Fin 5) (c : Fin τ.nSC) (s : Fin τ.nSub), ((Proc.scVector c s).devRef (slotRefs p.1 p.2) : DevRef τ sig).owner = .proc (Proc.scVector c s) := by
  intro p c s
  obtain ⟨a, b⟩ := p
  fin_cases a <;> fin_cases b <;> rfl

/-! ## Taking an indexed family out of a set -/

theorem take_out {I J : Type} [DecidableEq I] [DecidableEq J] [Fintype J] (s : Finset I) (f : J → I) (hf : Function.Injective f) (hs : ∀ j, f j ∈ s) (Φ : I → sProp (M F)) :
    bigSep s Φ = iprop((bigSep Finset.univ fun j => Φ (f j)) ∗ bigSep (s \ Finset.univ.image f) Φ) := by
  have h : Finset.univ.image f ⊆ s := by
    intro x hx
    obtain ⟨j, -, rfl⟩ := Finset.mem_image.mp hx
    exact hs j
  rw [SparseCore.bigSep_sdiff_split' h, SparseCore.bigSep_image_of_injOn (fun a _ b _ e => hf e)]

variable (d : Dev nD) (i : grid0.Coords)

/-- A slot's buffer whatever it holds. -/
def someBuf (b : Ref sig .scVector) : sProp (M F) := iprop(∃ f : Buf (Elt F) ((tid d i).loc b), (tid d i).loc b ↦{fullShare} f)

/-- A slot's buffers and semaphores at zero. -/
def slotOwn (k : Fin 3) : sProp (M F) :=
  iprop((bigSep Finset.univ fun j : Fin 5 => someBuf d i (slotRefs k j)) ∗ bigSep Finset.univ fun j : Fin 5 => idle d i (slotSems k j))

/-- What a tile owns besides. -/
def restOwn : sProp (M F) :=
  iprop((bigSep (ownRefs (τ := τ) (tid d i).2 \ Finset.univ.image fun p : Fin 3 × Fin 5 => (tid d i).2.devRef (slotRefs p.1 p.2)) fun b => iprop(∃ f, ((d, b) : Loc nD τ sig) ↦{fullShare} f))
    ∗ bigSep (ownCells (tid d i) \ Finset.univ.image fun p : Fin 3 × Fin 5 => ((tid d i, SemLoc.dma (slotSems p.1 p.2)) : GSem nD τ sig)) fun g => semVal g 0)

/-- A tile's buffers and semaphores are the three slots' and the rest. -/
theorem own_slots :
    (iprop(ownBufs (tid d i) ∗ ownSems0 (tid d i)) : sProp (M F)) ⊣⊢ iprop((bigSep Finset.univ fun k : Fin 3 => slotOwn d i k) ∗ restOwn d i) := by
  unfold ownBufs ownSems0 slotOwn restOwn
  rw [bigSep_sep', take_out _ (fun p : Fin 3 × Fin 5 => (tid d i).2.devRef (slotRefs p.1 p.2)) (fun a b e => slotRefs_inj (Proc.devRef_injective _ e))
      (fun p => SparseCore.Cfg.mem_ownRefs_of_owner (p := (tid d i).2) (slotRefs_own p _ _)),
    take_out _ (fun p : Fin 3 × Fin 5 => ((tid d i, SemLoc.dma (slotSems p.1 p.2)) : GSem nD τ sig))
      (fun a b e => slotSems_inj (SemLoc.dma.inj (congrArg Prod.snd e))) (fun p => mem_ownCells.mpr ⟨rfl, slotSems_scoped p⟩),
    BI.bigSep_univ_prod, BI.bigSep_univ_prod]
  constructor
  · iintro ⟨⟨Hb, Hbr⟩, Hs, Hsr⟩
    isplitl [Hb Hs]
    · isplitl [Hb]; · iexact Hb
      iexact Hs
    · isplitl [Hbr] <;> iassumption
  · iintro ⟨⟨Hb, Hs⟩, Hbr, Hsr⟩
    isplitl [Hb Hbr]
    · isplitl [Hb]; · iexact Hb
      iexact Hbr
    · isplitl [Hs]; · iexact Hs
      iexact Hsr

/-! ## A slot between steps -/

/-- The slots by number. -/
def slotOf : Fin 3 → Slot
  | 0 => slot0
  | 1 => slot1
  | 2 => slot2

theorem any_whole {cs : CoreSpace} {s : Shape} {e : EltTy} (m : Memref sig .scVector cs s e) (hm : m.IsWhole) :
    (Any d i m : sProp (M F)) = iprop(∃ f : Buf (Elt F) (m.view.loc (tid d i)), m.view.loc (tid d i) ↦{fullShare} f) := by
  unfold Any pts
  rw [hm.set_eq_univ]

theorem five (Φ : Fin 5 → sProp (M F)) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem three (Φ : Fin 3 → sProp (M F)) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- A slot as its five buffers and five semaphores. -/
def slotIdle5 (s : Slot) : sProp (M F) :=
  iprop((Any d i s.A.idx ∗ Any d i s.B.idx ∗ Any d i s.A.rows ∗ Any d i s.B.rows ∗ Any d i s.out)
    ∗ idle d i s.A.isem.sem ∗ idle d i s.B.isem.sem ∗ idle d i s.A.gsem.sem ∗ idle d i s.B.gsem.sem ∗ idle d i s.ssem.sem)

theorem slotOwn_eq (k : Fin 3) : (slotOwn d i k : sProp (M F)) = slotIdle5 d i (slotOf k) := by
  unfold slotOwn slotIdle5
  rw [five, five, any_whole _ _ _ (slotOf k).A.hidx, any_whole _ _ _ (slotOf k).B.hidx, any_whole _ _ _ (slotOf k).A.hrows,
    any_whole _ _ _ (slotOf k).B.hrows, any_whole _ _ _ (slotOf k).hout]
  fin_cases k <;> rfl

variable [FloatOps F] {d i} (E : Env F d i)

/-- A slot between steps is its buffers and its semaphores at zero. -/
theorem slot_idle (k : Fin 3) : slotOwn d i k ⊣⊢ E.SlotIdle (slotOf k) := by
  rw [slotOwn_eq]
  unfold slotIdle5 Env.SlotIdle Env.ListIdle Env.RowsIdle
  constructor
  · iintro ⟨⟨H1, H2, H3, H4, H5⟩, S1, S2, S3, S4, S5⟩
    isplitl [H1 H2 H3 H4 S1 S2 S3 S4]
    · isplitl [H1 H2 S1 S2]
      · isplitl [H1 S1]
        · isplitl [H1] <;> iassumption
        · isplitl [H2] <;> iassumption
      · isplitl [H3 S3]
        · isplitl [H3] <;> iassumption
        · isplitl [H4] <;> iassumption
    · isplitl [H5] <;> iassumption
  · iintro ⟨⟨⟨⟨H1, S1⟩, H2, S2⟩, ⟨H3, S3⟩, H4, S4⟩, H5, S5⟩
    isplitl [H1 H2 H3 H4 H5]
    · isplitl [H1]; · iexact H1
      isplitl [H2]; · iexact H2
      isplitl [H3]; · iexact H3
      isplitl [H4] <;> iassumption
    · isplitl [S1]; · iexact S1
      isplitl [S2]; · iexact S2
      isplitl [S3]; · iexact S3
      isplitl [S4] <;> iassumption

/-- The three slots together. -/
theorem slots_idle : (bigSep Finset.univ fun k : Fin 3 => slotOwn d i k) ⊣⊢ iprop(E.SlotIdle slot0 ∗ E.SlotIdle slot1 ∗ E.SlotIdle slot2) := by
  rw [three]
  exact ⟨BIClass.sep_mono (slot_idle E 0).1 (BIClass.sep_mono (slot_idle E 1).1 (slot_idle E 2).1),
    BIClass.sep_mono (slot_idle E 0).2 (BIClass.sep_mono (slot_idle E 1).2 (slot_idle E 2).2)⟩

end Cert.KernelIdeal.Pool

end
-- ==== Proof.Launch.lean ====
/- The whole program: the tiles' tasks from the launch, the host's operations before it, and what every run leaves. -/
module

public import proofs.«01_k».proof.Proof.Same
public import proofs.«01_k».proof.Proof.Parts
public import proofs.«01_k».proof.Proof.Scratch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen
open Idealize.ShloMosaic Idealize.ShloMosaic.Transfers
open Idealize.ShloMosaic.SparseCore (S V)
open Idealize.ShloMosaic.SparseCore.Cfg (HIx Pay ownBufs ownSems0)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The arrays -/

/-- The table, the row numbers, and the list made of them. -/
abbrev tblLoc (d : Dev nD) : Loc nD τ sig := (SparseCore.T d).loc main_arg0
abbrev numLoc (d : Dev nD) : Loc nD τ sig := (SparseCore.T d).loc main_arg1
abbrev listLoc (d : Dev nD) : Loc nD τ sig := (SparseCore.T d).loc main_v1

/-- The list the tiles read. -/
def listOf (d : Dev nD) : Buf (Elt F) (listLoc d) := padded (m (numLoc d))
/-- The result the tiles leave. -/
def finalOf (d : Dev nD) : Buf (Elt F) (resLoc d) := pooled (m (tblLoc d)) (listOf m d)

/-- Every row number is a row of the table. -/
def InRange : Prop := ∀ (d : Dev nD) (x : S10000x32.Idx), (m (numLoc d) x : BitVec 32).toNat < 10000

/-! ## What the launch passes -/

theorem nCore_zero : (K (F := F)).nCore 0 = 2 := rfl

/-- To read: the table and the list. -/
def reads (d : Dev nD) : sProp (M F) := iprop(Some' (tblLoc d) (m (tblLoc d)) ∗ Some' (listLoc d) (listOf m d))

/-- A core's rows of the result, its tiles' together. -/
def corePart (d : Dev nD) (f : Buf (Elt F) (resLoc d)) (c : Fin 2) : sProp (M F) := bigSep Finset.univ fun s : Fin 16 => part d f (at' c s)

instance some_storable (ℓ : Loc nD τ sig) (f : Buf (Elt F) ℓ) : BI.Storable (upEmb : UEmb _ (M F)) (Some' ℓ f) := by unfold Some'; infer_instance
instance part_storable (d : Dev nD) (f : Buf (Elt F) (resLoc d)) (i : grid0.Coords) : BI.Storable (upEmb : UEmb _ (M F)) (part d f i) := by
  unfold part; infer_instance
instance reads_storable (d : Dev nD) : BI.Storable (upEmb : UEmb _ (M F)) (reads m d) := by unfold reads; infer_instance
instance corePart_storable (d : Dev nD) (f : Buf (Elt F) (resLoc d)) (c : Fin 2) : BI.Storable (upEmb : UEmb _ (M F)) (corePart d f c) := by
  unfold corePart; infer_instance

/-- A core takes what its tiles read and write, a tile its own; both bring it back with the result in place. -/
def P : (K (F := F)).Pay (nD := nD) (Val := Elt F) (Name := ℕ) (U := UU) where
  st := fun q d c => match q with | 0 => iprop(reads m d ∗ corePart d (m (resLoc d)) (Fin.cast nCore_zero c))
  dn := fun q d c => match q with | 0 => iprop(reads m d ∗ corePart d (finalOf m d) (Fin.cast nCore_zero c))
  go := fun q d c s => match q with | 0 => iprop(reads m d ∗ part d (m (resLoc d)) (at' (Fin.cast nCore_zero c) (Fin.cast nSub_zero s)))
  td := fun q d c s => match q with | 0 => iprop(reads m d ∗ part d (finalOf m d) (at' (Fin.cast nCore_zero c) (Fin.cast nSub_zero s)))
  x := fun _ _ => iprop(emp)

instance P_storable : (P (F := F) m).IsStorable where
  st q d c := match q with
    | 0 => (inferInstance : BI.Storable (upEmb : UEmb _ (M F)) iprop(reads m d ∗ corePart d (m (resLoc d)) (Fin.cast nCore_zero c)))
  dn q d c := match q with
    | 0 => (inferInstance : BI.Storable (upEmb : UEmb _ (M F)) iprop(reads m d ∗ corePart d (finalOf m d) (Fin.cast nCore_zero c)))
  go q d c s := match q with
    | 0 => (inferInstance : BI.Storable (upEmb : UEmb _ (M F)) iprop(reads m d ∗ part d (m (resLoc d)) (at' (Fin.cast nCore_zero c) (Fin.cast nSub_zero s))))
  td q d c s := match q with
    | 0 => (inferInstance : BI.Storable (upEmb : UEmb _ (M F)) iprop(reads m d ∗ part d (finalOf m d) (at' (Fin.cast nCore_zero c) (Fin.cast nSub_zero s))))

theorem reads_many {I : Type} [DecidableEq I] (s : Finset I) (d : Dev nD) : reads m d ⊢ bigSep s fun _ => reads m d := by
  unfold reads
  rw [bigSep_sep']
  exact BIClass.sep_mono (some_many s _ _) (some_many s _ _)

/-! ## A tile's task -/

variable {m}

/-- What the task of the tile at `i` works with. -/
def tileEnv (hm : InRange m) (d : Dev nD) (i : grid0.Coords) (O : CellTallies nD τ sig (HIx 1)) (W : Waits sig (HIx 1)) : Env F d i where
  tbl := Memref.whole main_arg0_scv
  list := Memref.whole main_v1_scv
  res := resM
  ft := m (tblLoc d)
  fl := listOf m d
  f₀ := m (resLoc d)
  G := finalOf m d
  lo := first i
  n := count i
  hn := (count_le i).1
  hl k := padded_lt (m (numLoc d)) (hm d) k
  hG g hg := funext fun y => (rowsAt_read d i resM g hg (finalOf m d) y).trans (pooled_group (m (tblLoc d)) (listOf m d) g hg y)
  O := O
  W := W

attribute [local irreducible] pool cc0_pool

/-- The task over any arrays and with any names for its groups: with the tile's memory and semaphores as the launch gives them. -/
theorem tile_run (hF : (K (F := F)).Facts) (d : Dev nD) (i : grid0.Coords) (E : Env F d i) (hE : E.OfTile) (hO : ∀ g, E.O g none = 0) :
    iprop(levAts (K (F := F)).L (K (F := F)).lev ∗ emp
        ∗ ((Some' (E.tbl.view.loc (tid d i)) E.ft ∗ Some' (E.list.view.loc (tid d i)) E.fl) ∗ bigSep (Finset.range E.n) E.todo)
        ∗ scopedBufs (tid d i) ∗ scopedSems0 (tid d i) ∗ owes (tid d i) E.O E.W)
      ⊢ wpT d i (pool i E.tbl E.list E.res slot0 slot1 slot2)
          fun _ => iprop(((Some' (E.tbl.view.loc (tid d i)) E.ft ∗ Some' (E.list.view.loc (tid d i)) E.fl) ∗ bigSep (Finset.range E.n) E.done)
            ∗ scopedBufs (tid d i) ∗ scopedSems0 (tid d i)
            ∗ ∃ W', ⌜∀ p ∈ W', p ∈ E.W ∨ p.2 = none⌝ ∗ owes (tid d i) E.O W') := by
  rw [(K (F := F)).scopedBufs_V hF d ((i 0).castLE hcore0) ((i 1).castLE hsub0), SparseCore.Cfg.scopedSems0_V (Val := Elt F) d ((i 0).castLE hcore0) ((i 1).castLE hsub0)]
  refine BIBase.Entails.trans ?_ (wpT_mono d i (wpT_frame d i (R := restOwn d i) (@Env.pool_spec F _ d i E hE slot0 slot1 slot2)) fun _ => ?_)
  · iintro ⟨#Hlv, -, ⟨⟨Ht, Hl⟩, Hp⟩, Hb, Hs, HO⟩
    ihave Hmw := (show levAts (K (F := F)).L (K (F := F)).lev ⊢ Transfers.MayWaits (tid d i) (default : HIx 1) E.O from
      (K (F := F)).mayWaits_none (thr := tid d i) hO) $$ Hlv
    ihave Hown := (own_slots d i).1 $$ [Hb Hs]
    · isplitl [Hb] <;> iassumption
    icases Hown with ⟨Hslots, Hrest⟩
    ihave Hsl := (slots_idle E).1 $$ Hslots
    unfold Env.Common Owed
    isplitr [Hrest]
    · isplitl [Ht Hl Hmw HO]
      · isplitl [Ht]; · iexact Ht
        isplitl [Hl]; · iexact Hl
        isplitl [Hmw]; · iexact Hmw
        iexists E.W
        isplitr
        · ipureintro; exact fun p hp => .inl hp
        · iexact HO
      isplitl [Hp]; · iexact Hp
      iexact Hsl
    · iexact Hrest
  · unfold Env.Common Owed
    iintro ⟨⟨⟨Ht, Hl, -, HO⟩, Hp, Hsl⟩, Hrest⟩
    ihave Hslots := (slots_idle E).2 $$ Hsl
    ihave Hown := (own_slots d i).2 $$ [Hslots Hrest]
    · isplitl [Hslots] <;> iassumption
    icases Hown with ⟨Hb, Hs⟩
    isplitl [Ht Hl Hp]
    · isplitl [Ht Hl]
      · isplitl [Ht]; · iexact Ht
        iexact Hl
      · iexact Hp
    isplitl [Hb]; · iexact Hb
    isplitl [Hs]; · iexact Hs
    iexact HO

/-- The task of the tile at `i`: from what the launch hands it to its rows of the result, everything else as it was. -/
theorem tile_body (hF : (K (F := F)).Facts) (hm : InRange m) (d : Dev nD) (i : grid0.Coords) (O : CellTallies nD τ sig (HIx 1)) (W : Waits sig (HIx 1))
    (hO : ∀ g, O g none = 0) :
    iprop(levAts (K (F := F)).L (K (F := F)).lev ∗ emp ∗ (reads m d ∗ part d (m (resLoc d)) i)
        ∗ scopedBufs (tid d i) ∗ scopedSems0 (tid d i) ∗ owes (tid d i) O W)
      ⊢ wpT d i (cc0_pool (F := F) i (Memref.whole main_arg0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29)
          fun _ => iprop((reads m d ∗ part d (finalOf m d) i) ∗ scopedBufs (tid d i) ∗ scopedSems0 (tid d i)
            ∗ ∃ W', ⌜∀ p ∈ W', p ∈ W ∨ p.2 = none⌝ ∗ owes (tid d i) O W') := by
  have hE : (tileEnv hm d i O W).OfTile := ⟨rfl, rfl⟩
  have e := pool_eq (F := F) i (Memref.whole main_arg0_scv) (Memref.isWhole_whole _) (Memref.whole main_v1_scv) (Memref.isWhole_whole _) (Memref.whole main_v2_scv) (Memref.isWhole_whole _) slot0 slot1 slot2
  have h := @tile_run F _ hF d i (tileEnv hm d i O W) hE hO
  unfold reads part
  exact (Entails.of_eq rfl).trans (h.trans (Entails.of_eq (congrArg (fun p => wpT d i p _) e.symm)))

/-! ## The obligations of the launch -/

theorem defs₀_vector (c : Fin τ.nSC) (s : Fin τ.nSub) :
    defs₀ (F := F) (.scVector c s) 0 ()
      = SparseCore.onTile hcore0 hsub0 (fun c s => cc0_pool (F := F) (at' c s) (Memref.whole main_arg0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29) ⟨⟩ c s := rfl

theorem obl_post {thr : Thread nD τ} {A B C : sProp (M F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hm : InRange m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BIBase.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact BIBase.Entails.trans (@tile_body F _ m hF hm d (at' ⟨_, hcs.1⟩ ⟨_, hcs.2⟩) O W hO) (wp_mono frame _ _ fun _ => obl_post)

variable (m)

theorem bigSep_tiles (Φ : Fin 16 → sProp (M F)) :
    (bigSep Finset.univ fun s : Fin ((K (F := F)).nSub 0) => Φ (Fin.cast nSub_zero s)) = bigSep Finset.univ Φ :=
  bigSep_congr fun _ _ => congrArg Φ (Fin.ext rfl)
theorem bigSep_cores (Φ : Fin 2 → sProp (M F)) :
    (bigSep Finset.univ fun c : Fin ((K (F := F)).nCore 0) => Φ (Fin.cast nCore_zero c)) = bigSep Finset.univ Φ :=
  bigSep_congr fun _ _ => congrArg Φ (Fin.ext rfl)

/-- A core's share splits among its tiles and comes back together. -/
theorem vecSplit : (K (F := F)).VecSplit' (P m) 0 := by
  intro d c
  show iprop(reads m d ∗ corePart d (m (resLoc d)) (Fin.cast nCore_zero c)) ⊢ |={Set.univ}=> iprop(
      (bigSep Finset.univ fun s : Fin ((K (F := F)).nSub 0) => iprop(reads m d ∗ part d (m (resLoc d)) (at' (Fin.cast nCore_zero c) (Fin.cast nSub_zero s))))
      ∗ ((bigSep Finset.univ fun s : Fin ((K (F := F)).nSub 0) => iprop(reads m d ∗ part d (finalOf m d) (at' (Fin.cast nCore_zero c) (Fin.cast nSub_zero s))))
          -∗ iprop(reads m d ∗ corePart d (finalOf m d) (Fin.cast nCore_zero c))))
  rw [bigSep_tiles (F := F) (fun s => iprop(reads m d ∗ part d (m (resLoc d)) (at' (Fin.cast nCore_zero c) s))),
    bigSep_tiles (F := F) (fun s => iprop(reads m d ∗ part d (finalOf m d) (at' (Fin.cast nCore_zero c) s))), bigSep_sep', bigSep_sep']
  unfold corePart
  iintro ⟨Hr, Hp⟩
  imodintro
  ihave Hr' := (reads_many m {0, 1} d) $$ Hr
  ihave Hr2 := (Entails.of_eq (show (bigSep ({0, 1} : Finset ℕ) fun _ => reads m d) = iprop(reads m d ∗ reads m d) by
    rw [SparseCore.bigSep_insert' (by decide), bigSep_singleton])) $$ Hr'
  icases Hr2 with ⟨Hr1, Hr2⟩
  isplitl [Hr1 Hp]
  · isplitl [Hr1]
    · iapply (reads_many m Finset.univ d); iexact Hr1
    · iexact Hp
  iintro ⟨-, Hp⟩
  isplitl [Hr2]; · iexact Hr2
  iexact Hp

/-! ## The launch's own state -/

def u₀ : UU := (initOf (K (F := F)).hsCells (K (F := F)).hsToks, 1)

theorem bigSep_emp' {I : Type} (s : Finset I) : (bigSep s fun _ => iprop(emp)) = (iprop(emp) : sProp (M F)) := bigSep_emp_const s

theorem hu₀ : (ownU (u₀ (F := F)) : sProp (M F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's operations -/

/-- The host's operations before the call: the row numbers laid out as one list and filled up with zeros. -/
abbrev hostOps : List (HloOp τ sig (Elt F)) :=
  [ StableHlo.reshape main_arg1 main_v0 (rfl : (.i32 : EltTy) = .i32) shapeCasts_S10000x32_S320000,
    StableHlo.nullary main_c (constantI S_ 32 0#32),
    StableHlo.TRef.unary (.of main_c : StableHlo.TRef sig ⟨S_, .i32⟩) main_call0.v0 id,
    StableHlo.TRef.binary (.of main_v0 : StableHlo.TRef sig ⟨S320000, .i32⟩) main_call0.v0 main_call0.v1 (fun x v => pad S327680 ![0] ![7680] ![0] x v pads_S320000_S327680_076800 h_S_) ]

theorem main_eq (d : Dev nD) : main (F := F) d = (seq hostOps >>= fun _ => (do sc.run d 0; pure ⟨⟩)) := rfl

/-- The arrays of the host. -/
abbrev hostRefs : Finset (Ref sig .tc) := {main_arg0, main_arg1, main_v0, main_c, main_call0_v0, main_v1, main_v2}
def hostSet : Finset (DevRef τ sig) := hostRefs.map ⟨fun b => Proc.devRef .tc b, Proc.devRef_injective _⟩

theorem hostOps_sub : ∀ op ∈ (hostOps : List (HloOp τ sig (Elt F))), op.bufs ⊆ hostSet := by
  refine List.forall_iff_forall_mem.1 ⟨?_, ?_, ?_, ?_⟩
  · exact show ({Proc.devRef .tc main_arg1, Proc.devRef .tc main_v0} : Finset (DevRef τ sig)) ⊆ hostSet by decide
  · exact show ({Proc.devRef .tc main_c} : Finset (DevRef τ sig)) ⊆ hostSet by decide
  · exact show ({Proc.devRef .tc main_c, Proc.devRef .tc main_call0_v0} : Finset (DevRef τ sig)) ⊆ hostSet by decide
  · exact show ({Proc.devRef .tc main_v0, Proc.devRef .tc main_call0_v0, Proc.devRef .tc main_v1} : Finset (DevRef τ sig)) ⊆ hostSet by decide

theorem hostOps_fresh : ∀ op ∈ (hostOps : List (HloOp τ sig (Elt F))), op.fresh = ∅ := by
  intro _ h; (repeat (cases h with | head => rfl | tail _ h => ?_)); exact nomatch h

/-- The arrays before and after the host's operations. -/
def V0 (d : Dev nD) : Valuation τ sig (Elt F) := fun b => m (d, b)
def V1 (d : Dev nD) : Valuation τ sig (Elt F) := after hostOps (V0 m d)

theorem V1_arg0 (d : Dev nD) : V1 m d (Proc.devRef .tc main_arg0) = m (tblLoc d) := by
  unfold V1; simp only [hostOps, StableHlo.TRef.binary, StableHlo.TRef.unary, StableHlo.TRef.toBuf, StableHlo.TRef.ofBuf, cast_eq]; after_results <;> rfl
theorem V1_arg1 (d : Dev nD) : V1 m d (Proc.devRef .tc main_arg1) = m (numLoc d) := by
  unfold V1; simp only [hostOps, StableHlo.TRef.binary, StableHlo.TRef.unary, StableHlo.TRef.toBuf, StableHlo.TRef.ofBuf, cast_eq]; after_results <;> rfl
theorem V1_v1 (d : Dev nD) : V1 m d (Proc.devRef .tc main_v1) = listOf m d := by
  unfold V1; simp only [hostOps, StableHlo.TRef.binary, StableHlo.TRef.unary, StableHlo.TRef.toBuf, StableHlo.TRef.ofBuf, cast_eq]; after_results <;> rfl
theorem V1_v2 (d : Dev nD) : V1 m d (Proc.devRef .tc main_v2) = m (resLoc d) := by
  unfold V1; simp only [hostOps, StableHlo.TRef.binary, StableHlo.TRef.unary, StableHlo.TRef.toBuf, StableHlo.TRef.ofBuf, cast_eq]; after_results <;> rfl

theorem unscoped_held (d : Dev nD) : (unscopedBufs d (fun b => m ((SparseCore.T d).loc b)) : sProp (M F)) = held (SparseCore.T d) hostSet (V0 m d) := by
  unfold unscopedBufs held hostSet
  rw [show (Finset.univ.filter fun b : Ref sig .tc => ¬ b.isScoped) = hostRefs by decide, SparseCore.bigSep_map]
  rfl

/-- Of the host's arrays, the four the call and the claims use. -/
theorem held_hostSet (d : Dev nD) (W : Valuation τ sig (Elt F)) :
    (held (SparseCore.T d) hostSet W : sProp (M F))
      ⊢ iprop((tblLoc d ↦{fullShare} W (Proc.devRef .tc main_arg0)) ∗ (numLoc d ↦{fullShare} W (Proc.devRef .tc main_arg1))
          ∗ (listLoc d ↦{fullShare} W (Proc.devRef .tc main_v1)) ∗ (resLoc d ↦{fullShare} W (Proc.devRef .tc main_v2))) := by
  unfold held hostSet
  rw [SparseCore.bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  iintro ⟨H0, H1, -, -, -, H5, H6⟩
  isplitl [H0]; · iexact H0
  isplitl [H1]; · iexact H1
  isplitl [H5]; · iexact H5
  iexact H6

/-- The four after the host's operations. -/
theorem held_V1 (d : Dev nD) :
    (held (SparseCore.T d) hostSet (after hostOps (V0 m d)) : sProp (M F))
      ⊢ iprop((tblLoc d ↦{fullShare} m (tblLoc d)) ∗ (numLoc d ↦{fullShare} m (numLoc d))
          ∗ (listLoc d ↦{fullShare} listOf m d) ∗ (resLoc d ↦{fullShare} m (resLoc d))) := by
  refine (held_hostSet d (V1 m d)).trans ?_
  rw [V1_arg0, V1_arg1, V1_v1, V1_v2]

/-- What the call takes on both cores: the table, the list and the whole result. -/
theorem st0 (d : Dev nD) : iprop(reads m d ∗ resLoc d ↦{fullShare} m (resLoc d)) ⊢ bigSep Finset.univ fun c : Fin ((K (F := F)).nCore 0) => (P m).st 0 d c := by
  show _ ⊢ bigSep Finset.univ fun c : Fin ((K (F := F)).nCore 0) => iprop(reads m d ∗ corePart d (m (resLoc d)) (Fin.cast nCore_zero c))
  rw [bigSep_cores (F := F) (fun c => iprop(reads m d ∗ corePart d (m (resLoc d)) c)), bigSep_sep', whole_parts]
  exact BIClass.sep_mono (reads_many m _ d) BIBase.Entails.refl

/-- What it brings back: the result, pooled. -/
theorem dn0 (d : Dev nD) : (bigSep Finset.univ fun c : Fin ((K (F := F)).nCore 0) => (P m).dn 0 d c) ⊢ iprop(resLoc d ↦{fullShare} finalOf m d) := by
  show (bigSep Finset.univ fun c : Fin ((K (F := F)).nCore 0) => iprop(reads m d ∗ corePart d (finalOf m d) (Fin.cast nCore_zero c))) ⊢ _
  rw [bigSep_cores (F := F) (fun c => iprop(reads m d ∗ corePart d (finalOf m d) c)), bigSep_sep', whole_parts]
  unfold corePart
  iintro ⟨-, H⟩
  iexact H

/-- What the host keeps for the claims: the arguments as they were, the result pooled. -/
abbrev FIN (d : Dev nD) : sProp (M F) :=
  iprop((tblLoc d ↦{PosShare.left fullShare} m (tblLoc d)) ∗ (numLoc d ↦{fullShare} m (numLoc d)) ∗ resLoc d ↦{fullShare} finalOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d hostSet _ hostOps hostOps_sub hostOps_fresh (V0 m d)) $$ [Hb Hheld]
  · isplitl [Hb] <;> iassumption
  iintro ⟨Hb, Hheld⟩
  ihave Hh := (held_V1 m d) $$ Hheld
  icases Hh with ⟨Ht, Hn, Hl, Hr⟩
  ihave Ht' := (pointsTo_share (PosShare.mem_left_op_right fullShare)).1 $$ Ht
  icases Ht' with ⟨Ht1, Ht2⟩
  simp only [wp_bind, wp_pure]
  iapply ((K (F := F)).wp_run (D (F := F)) 𝒱 (EH := EH) (P := P m) κ d 0) $$ [Hst Ht1 Ht2 Hn Hl Hr Hb Hts]
  isplitr; · iexact Hctx
  isplitl [Hst]; · iexact Hst
  isplitl [Ht2 Hl Hr]
  · iapply (st0 m d)
    unfold reads Some'
    isplitl [Ht2 Hl]
    · isplitl [Ht2]
      · iexists _; iexact Ht2
      · iexists _; iexact Hl
    · iexact Hr
  iintro ⟨Hst, Hdn⟩
  ihave Hr := (dn0 m d) $$ Hdn
  imodintro
  isplitl [Hst]; · iexact Hst
  isplitr [Hb Hts]
  · isplitl [Ht1]; · iexact Ht1
    isplitl [Hn]; · iexact Hn
    iexact Hr
  isplitl [Hb] <;> iassumption

def fq (d : Dev nD) (s' : Phys nD τ sig (Elt F)) : Prop :=
  s'.mem.mem (tblLoc d) = m (tblLoc d) ∧ s'.mem.mem (numLoc d) = m (numLoc d) ∧ s'.mem.mem (resLoc d) = finalOf m d

/-- What is held at the end is what the memory holds. -/
theorem agree {s' : Phys nD τ sig (Elt F)} {ℓ : Loc nD τ sig} {q : PosShare TreeShare} {f : Buf (Elt F) ℓ} :
    iprop(SI s' ∗ ℓ ↦{q} f) ⊢ (iprop(⌜s'.mem.mem ℓ = f⌝ ∗ SI s') : sProp (M F)) := by
  iintro H
  ihave H' := (persistent_entails_right (SI_pointsTo_agree (st := s') (ℓ := ℓ) (I := Finset.univ) (q := q) (f := f))) $$ H
  icases H' with ⟨%h, HSI, -⟩
  isplitr
  · ipureintro; exact funext fun x => h x (Finset.mem_univ x)
  · iexact HSI

theorem hfin (d : Dev nD) (s' : Phys nD τ sig (Elt F)) : iprop(FIN m d ∗ SI s') ⊢ (⌜fq m d s'⌝ : sProp (M F)) := by
  iintro ⟨⟨Ht, Hn, Hr⟩, HSI⟩
  ihave H := (agree (s' := s')) $$ [HSI Ht]
  · isplitl [HSI] <;> iassumption
  icases H with ⟨%h1, HSI⟩
  ihave H := (agree (s' := s')) $$ [HSI Hn]
  · isplitl [HSI] <;> iassumption
  icases H with ⟨%h2, HSI⟩
  ihave H := (agree (s' := s')) $$ [HSI Hr]
  · isplitl [HSI] <;> iassumption
  icases H with ⟨%h3, -⟩
  ipureintro; exact ⟨h1, h2, h3⟩

/-! ## The program's run -/

/-- The arguments as they were, the result pooled, every semaphore at zero. -/
def QC : PUnit × MemSt nD τ sig (Elt F) → Prop := fun r =>
  (∀ c : Dev nD, r.2.mem (tblLoc c) = m (tblLoc c) ∧ r.2.mem (numLoc c) = m (numLoc c) ∧ r.2.mem (resLoc c) = finalOf m c) ∧ r.2.sem = fun _ => 0

/-- Every run from a memory whose row numbers are in range ends, with the arguments as they were and the result pooled. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pool

end
-- ==== Proof.Values.lean ====
/- What the two programs compute is the same: over exact numbers the sum of the thirty-two named rows divided by thirty-two is
   their sum times a thirty-second, and the precondition makes every row number the number of a row. -/
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.IdealHost
public import Idealize.ShloMosaic.Lib.ValueIdx
public import Idealize.ShloMosaic.Lib.Pointwise.Reduce
public import Idealize.ShloMosaic.PureOps.Ideal.Laws

@[expose] public section

noncomputable section

namespace Cert.KernelIdeal.Pool

open Idealize.ShloMosaic hiding ix0 ix1 ix2 ix3
open Idealize.ShloMosaic.ValueIdx

/-! ## The precondition -/

/-- A word that is at least zero and less than 10000, read signed, is a number less than 10000. -/
theorem word_lt {v : BitVec 32} (h0 : (0#32 : BitVec 32).toInt ≤ v.toInt) (h1 : v.toInt < (10000#32 : BitVec 32).toInt) : v.toNat < 10000 := by
  rw [show (0#32 : BitVec 32).toInt = 0 by decide] at h0
  rw [show (10000#32 : BitVec 32).toInt = 10000 by decide] at h1
  rw [BitVec.toInt_eq_toNat_cond] at h0 h1
  omega

/-- Such a number is the word read signed. -/
theorem toInt_small {v : BitVec 32} (h : v.toNat < 10000) : v.toInt = v.toNat := by rw [BitVec.toInt_eq_toNat_cond, if_pos (by omega)]

instance : Subsingleton (Cert.Pre_in_range.S_).Idx := ⟨fun _ _ => funext fun a => a.elim0⟩

/-- Where the precondition holds every row number is less than 10000. -/
theorem lt_of_pre {F : FTy → Type} [FloatOps F] [Cert.Pre_in_range.Facts] (t : FVec F Cert.Pre_in_range.S10000x128 .f32) (a : IVec Cert.Pre_in_range.S10000x32 32)
    (h : Cert.Pre_in_range.fn (F := F) t a = fun _ => 1#1) (x : Cert.Pre_in_range.S10000x32.Idx) : (a x).toNat < 10000 := by
  have e := IntOp.andi_eq_one.1 (Host.reduce_andi_all _ _ _ _ ix0 (congrFun h ix0) x)
  exact word_lt (IntOp.cmpi_sge.1 e.1) (IntOp.cmpi_slt.1 e.2)

/-! ## The reference's rows -/

section Reference

open Cert.ReferenceIdeal Cert.ReferenceIdeal.Gen

/-- The row numbers as the reference indexes by them. -/
abbrev refIdx (a : IVec S10000x32 32) : IVec S10000x32x1 32 :=
  broadcastInDim S10000x32x1 ![0, 1] bcast_S10000x32_S10000x32x1_0_1
    (select (cmpi .slt a (broadcastInDim S10000x32 ![] bcast_S_S10000x32 (constantI S_ 32 0#32)))
      (addi a (broadcastInDim S10000x32 ![] bcast_S_S10000x32 (constantI S_ 32 10000#32))) a)

/-- Which of them the reference takes to be in range. -/
abbrev refMask (a : IVec S10000x32 32) : IVec S10000x32 1 :=
  Host.reduce IntOp.andi (andi (cmpi .sge (refIdx a) (broadcastInDim S10000x32x1 ![] bcast_S_S10000x32x1 (constantI S_ 32 0#32)))
      (cmpi .sle (refIdx a) (broadcastInDim S10000x32x1 ![0, 1, 2] bcast_S1x1x1_S10000x32x1_0_1_2 (broadcastInDim S1x1x1 ![2] bcast_S1_S1x1x1_2 (constantI S1 32 9999#32)))))
    (constantI S_ 1 1#1) reducesTo_S10000x32x1_S10000x32_d2 h_S_

/-- The named rows, all of them. -/
abbrev refRows (t : FVec Ideal S10000x128 .f32) (a : IVec S10000x32 32) : FVec Ideal S10000x32x128 .f32 :=
  select (broadcastInDim S10000x32x128 ![0, 1] bcast_S10000x32_S10000x32x128_0_1 (refMask a))
    (Host.gather gather_S10000x128_S10000x32x1_S10000x32x128_2_0_n_n_0_2_1128 t (refIdx a))
    (broadcastInDim S10000x32x128 ![] bcast_S_S10000x32x128 (constant S_ .f32 0x7FC00000#32))

/-- The reference's result. -/
def refValue (t : FVec Ideal S10000x128 .f32) (a : IVec S10000x32 32) : FVec Ideal S10000x128 .f32 :=
  Host.divf (Host.reduceAdd (refRows t a) (constant S_ .f32 0x00000000#32) reducesTo_S10000x32x128_S10000x128_d1 h_S_)
    (broadcastInDim S10000x128 ![] bcast_S_S10000x128 (constant S_ .f32 0x42000000#32))

/-- Taking rows: row `idx r j` of the table, read signed and held within it. -/
theorem gather_rows (t : FVec Ideal S10000x128 .f32) (idx : IVec S10000x32x1 32) (r : Fin 10000) (j : Fin 32) (c : Fin 128) :
    Host.gather gather_S10000x128_S10000x32x1_S10000x32x128_2_0_n_n_0_2_1128 t idx (ix3 r j c) = cell t (idx (ix3 r j (0 : Fin 1))).toInt.toNat c.val := by
  unfold Host.gather cell
  refine congrArg t (funext ?_)
  refine Fin.forall_fin_two.2 ⟨Fin.ext ?_, Fin.ext ?_⟩
  · show GatherDims.start _ _ _ _ + GatherDims.batchCoord _ _ _ + GatherDims.offCoord _ _ _ = min (idx (ix3 r j (0 : Fin 1))).toInt.toNat 9999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S10000x128_S10000x32x1_S10000x32x128_2_0_n_n_0_2_1128).startIndexMap from List.mem_singleton.mpr rfl)]
    have e : (gather_S10000x128_S10000x32x1_S10000x32x128_2_0_n_n_0_2_1128).siIdx (ix3 r j c)
        ⟨List.idxOf (0 : Fin 2) (gather_S10000x128_S10000x32x1_S10000x32x128_2_0_n_n_0_2_1128).startIndexMap,
          List.idxOf_lt_length_iff.2 (List.mem_singleton.mpr rfl)⟩ = ix3 r j (0 : Fin 1) := by
      funext b; refine Fin.ext ?_
      match b with
      | ⟨0, _⟩ => rfl
      | ⟨1, _⟩ => rfl
      | ⟨2, _⟩ => rfl
    exact congrArg (fun k => min (idx k).toInt.toNat 9999) e
  · show GatherDims.start _ _ _ _ + GatherDims.batchCoord _ _ _ + GatherDims.offCoord _ _ _ = min c.val 127
    rw [GatherDims.batchCoord_eq_zero _ _ _ List.not_mem_nil]
    unfold GatherDims.start
    rw [dif_neg (show (1 : Fin 2) ∉ (gather_S10000x128_S10000x32x1_S10000x32x128_2_0_n_n_0_2_1128).startIndexMap from by
      rw [show (gather_S10000x128_S10000x32x1_S10000x32x128_2_0_n_n_0_2_1128).startIndexMap = [0] from rfl]; decide)]
    have hc := c.isLt
    rw [show min c.val 127 = c.val by omega, Nat.add_zero, Nat.zero_add]
    rfl

/-- An index of three coordinates is made of them. -/
theorem eta3 (y : S10000x32x1.Idx) : ∃ (r : Fin 10000) (j : Fin 32) (z : Fin 1), y = ix3 r j z :=
  ⟨y 0, y 1, y 2, funext fun b => match b with | ⟨0, _⟩ => rfl | ⟨1, _⟩ => rfl | ⟨2, _⟩ => rfl⟩

variable {a : IVec S10000x32 32} (ha : ∀ x, (a x).toNat < 10000)
include ha

/-- In range a row number is what the reference indexes by. -/
theorem refIdx_eq (r : Fin 10000) (j : Fin 32) (z : Fin 1) : refIdx a (ix3 r j z) = a (ix2 r j) := by
  refine (broadcastInDim_apply _ _ _ (ix3 r j z) (ix2 r j) (fun b => match b with | ⟨0, _⟩ => rfl | ⟨1, _⟩ => rfl)).trans ?_
  show Scalar.select (BitVec.ofBool (decide ((a (ix2 r j)).toInt < (0#32 : BitVec 32).toInt))) _ _ = _
  rw [toInt_small (ha _), decide_eq_false (by rw [show (0#32 : BitVec 32).toInt = 0 by decide]; omega)]
  rfl

/-- So all are taken to be in range. -/
theorem refMask_eq (y : S10000x32.Idx) : refMask a y = 1#1 := by
  refine Host.reduce_andi_one _ _ _ _ _ rfl fun x => ?_
  obtain ⟨r, j, z, rfl⟩ := eta3 x
  have h := ha (ix2 r j)
  refine IntOp.andi_eq_one.2 ⟨IntOp.cmpi_sge.2 ?_, IntOp.cmpi_sle.2 ?_⟩
  · show (0#32 : BitVec 32).toInt ≤ (refIdx a (ix3 r j z)).toInt
    rw [refIdx_eq ha, toInt_small h, show (0#32 : BitVec 32).toInt = 0 by decide]
    omega
  · show (refIdx a (ix3 r j z)).toInt ≤ (9999#32 : BitVec 32).toInt
    rw [refIdx_eq ha, toInt_small h, show (9999#32 : BitVec 32).toInt = 9999 by decide]
    omega

/-- The reference's named rows are the table's. -/
theorem refRows_eq (t : FVec Ideal S10000x128 .f32) (r : Fin 10000) (j : Fin 32) (c : Fin 128) :
    refRows t a (ix3 r j c) = cell t (a (ix2 r j)).toNat c.val := by
  show Scalar.select (broadcastInDim S10000x32x128 ![0, 1] bcast_S10000x32_S10000x32x128_0_1 (refMask a) (ix3 r j c)) _ _ = _
  rw [show broadcastInDim S10000x32x128 ![0, 1] bcast_S10000x32_S10000x32x128_0_1 (refMask a) (ix3 r j c) = 1#1 from refMask_eq ha _, select_one, gather_rows, refIdx_eq ha,
    toInt_small (ha _)]
  rfl

end Reference

/-! ## The sum -/

/-- Numbers added in order from zero are their sum. -/
theorem sumTo_eq (g : ℕ → Ideal .f32) (n : ℕ) : sumTo g n = (∑ j : Fin n, g j.val : EReal) := by
  induction n with
  | zero => exact Ideal.ofBits_zero_f32
  | succ n ih => rw [Fin.sum_univ_castSucc]; unfold sumTo; rw [ih]; rfl

theorem thirtyTwo : (FloatOps.ofBits (F := Ideal) .f32 0x42000000#32 : EReal) = ((32 : ℝ) : EReal) := by
  show Ideal.ofBits .f32 0x42000000#32 = _
  simp [Ideal.ofBits, Ideal.ieee, -EReal.coe_mul]; norm_num

theorem oneOf32_eq : (oneOf32 (F := Ideal) : EReal) = (((1 : ℝ) / 32 : ℝ) : EReal) := by
  show Ideal.ofBits .f32 0x3D000000#32 = _
  simp [Ideal.ofBits, Ideal.ieee, -EReal.coe_mul]; norm_num

/-- Where every row number is in range the reference's result is what the kernel leaves. -/
theorem value_eq (t : S10000x128.Idx → Ideal .f32) (a : S10000x32.Idx → BitVec 32) (ha : ∀ x, (a x).toNat < 10000) :
    refValue t a = pooled t (padded a) := by
  funext x
  show Ideal.div (Ideal.hostReduceAdd _ (refRows t a) _ x) (FloatOps.ofBits (F := Ideal) .f32 0x42000000#32) = _
  rw [Ideal.hostReduceAdd_r3_a1, thirtyTwo, Ideal.div_coe (by norm_num)]
  show _ = (HMul.hMul (α := EReal) (β := EReal) (sumTo (F := Ideal) _ 32) (oneOf32 (F := Ideal)))
  rw [oneOf32_eq, sumTo_eq]
  refine congrArg (fun z : EReal => z * (((1 : ℝ) / 32 : ℝ) : EReal)) ?_
  refine (congrArg (· + _) Ideal.ofBits_zero_f32).trans ((zero_add _).trans (Finset.sum_congr rfl fun j _ => ?_))
  refine (refRows_eq ha t _ j _).trans ?_
  rw [← padded_inside a]
  rfl

end Cert.KernelIdeal.Pool

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Values
public import Idealize.ShloMosaic.Adequacy
public import Idealize.ShloMosaic.Init

@[expose] public section

noncomputable section

namespace Cert.Proof

open Idealize.ShloMosaic Idealize.SL.Sem
open Cert.KernelIdeal.Pool (run_main lt_of_pre value_eq finalOf InRange)

attribute [local instance] Cert.Kernel.Gen.facts Cert.KernelIdeal.Gen.facts Cert.ReferenceIdeal.Gen.facts Cert.Pre_in_range.Gen.facts

/-- The kernel, over the values as they are stored: every run ends, the arguments as they were, every semaphore at zero. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (run_main (F := Bits) m ρ fun d x => lt_of_pre _ _ (hpre d) x)

/-- The kernel over exact numbers: the same. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d x => lt_of_pre _ _ (hpre d) x)

/-- The reference over exact numbers: every run ends, the arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_in_range := fun m ρ _ => frame_reference m ρ trivial

/-- Kernel and reference over exact numbers, from equal arguments with every row number in range: both end with the same result,
    the thirty-two named rows' mean, and their arguments as they were. -/
theorem algebraic : Cert.algebraic_KernelIdeal_ReferenceIdeal := by
  intro m ρ m' ρ' hpre harg
  have hm : InRange m := fun d x => lt_of_pre _ _ (hpre d) x
  refine ⟨finalOf m, ?_, ?_⟩
  · exact (θ_run Cert.KernelIdeal.defs _ _).mono (fun _ h c => ⟨(h.1 c).2.2, (h.1 c).1, (h.1 c).2.1⟩) (run_main (F := Ideal) m ρ hm)
  · refine (θ_run Cert.ReferenceIdeal.defs _ _).mono (fun _ h c => ⟨?_, (h c).2⟩) (Cert.ReferenceIdeal.Value.run (F := Ideal) m' ρ')
    refine (h c).1.trans ?_
    rw [(harg c).1, (harg c).2]
    exact value_eq _ _ (hm c)

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
